-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x100000 : Shape := ⟨2, ![128, 100000]⟩
abbrev S128 : Shape := ⟨1, ![128]⟩
abbrev S_ : Shape := ⟨0, ![]⟩
abbrev S1024 : Shape := ⟨1, ![1024]⟩
abbrev S128x1 : Shape := ⟨2, ![128, 1]⟩
abbrev S1x1024 : Shape := ⟨2, ![1, 1024]⟩
abbrev S128x1024 : Shape := ⟨2, ![128, 1024]⟩
abbrev S128x672 : Shape := ⟨2, ![128, 672]⟩
abbrev S2x128x1024 : Shape := ⟨3, ![2, 128, 1024]⟩
abbrev S2 : Shape := ⟨1, ![2]⟩
abbrev S1 : Shape := ⟨1, ![1]⟩
abbrev S1x128x1024 : Shape := ⟨3, ![1, 128, 1024]⟩

abbrev nBuf : Space → Nat
  | .hbm => 18
  | .vmem => 6
  | .smem => 0
  | _ => 0

abbrev bufTy : (tb : Table) → Fin (tcTables nBuf tb) → BufTy
  | .hbm, ⟨0, _⟩ => ⟨S128x100000, .f32⟩
  | .hbm, ⟨1, _⟩ => ⟨S128, .i32⟩
  | .hbm, ⟨2, _⟩ => ⟨S_, .i32⟩
  | .hbm, ⟨3, _⟩ => ⟨S128, .i32⟩
  | .hbm, ⟨4, _⟩ => ⟨S128, .i32⟩
  | .hbm, ⟨5, _⟩ => ⟨S1024, .i32⟩
  | .hbm, ⟨6, _⟩ => ⟨S128x1, .i32⟩
  | .hbm, ⟨7, _⟩ => ⟨S1x1024, .i32⟩
  | .hbm, ⟨8, _⟩ => ⟨S128x1024, .i32⟩
  | .hbm, ⟨9, _⟩ => ⟨S128x1024, .i32⟩
  | .hbm, ⟨10, _⟩ => ⟨S128x1024, .i32⟩
  | .hbm, ⟨11, _⟩ => ⟨S_, .i32⟩
  | .hbm, ⟨12, _⟩ => ⟨S128x1024, .i32⟩
  | .hbm, ⟨13, _⟩ => ⟨S128x1024, .i32⟩
  | .hbm, ⟨14, _⟩ => ⟨S128x1024, .i32⟩
  | .hbm, ⟨15, _⟩ => ⟨S128x672, .f32⟩
  | .hbm, ⟨16, _⟩ => ⟨S128x1, .i32⟩
  | .hbm, ⟨17, _⟩ => ⟨S128, .i32⟩
  | .local _ .vmem, ⟨0, _⟩ => ⟨S128x1024, .i32⟩
  | .local _ .vmem, ⟨1, _⟩ => ⟨S128x672, .f32⟩
  | .local _ .vmem, ⟨2, _⟩ => ⟨S128x1, .i32⟩
  | .local _ .vmem, ⟨3, _⟩ => ⟨S2x128x1024, .f32⟩
  | .local _ .vmem, ⟨4, _⟩ => ⟨S128x1024, .f32⟩
  | .local _ .vmem, ⟨5, _⟩ => ⟨S128x1024, .i32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_15 : BitVec 32 := 0#32
  let c97_i32 : BitVec 32 := 97#32
  let v20 : BitVec 32 := Scalar.addi c0_i32_15 c97_i32
  let c1_i32_16 : BitVec 32 := 1#32
  ⟨c0_i32_15, v20, c1_i32_16⟩
def k0_off1 (k0_t1 : Fin k0_t1_loop.trips) : Fin 1 → Nat :=
  let c0_i32_15 : BitVec 32 := 0#32
  let c1_i32_16 : BitVec 32 := 1#32
  let arg8 : BitVec 32 := Scf.iv c0_i32_15 c1_i32_16 k0_t1
  let c2_i32_80 : BitVec 32 := 2#32
  let v232 : BitVec 32 := Scalar.remsi arg8 c2_i32_80
  ![v232.toNat]
def k0_off2 (k0_t1 : Fin k0_t1_loop.trips) : Fin 3 → Nat :=
  let c0_i32_15 : BitVec 32 := 0#32
  let c1_i32_16 : BitVec 32 := 1#32
  let arg8 : BitVec 32 := Scf.iv c0_i32_15 c1_i32_16 k0_t1
  let c2_i32_80 : BitVec 32 := 2#32
  let v232 : BitVec 32 := Scalar.remsi arg8 c2_i32_80
  let c0_i32_82 : BitVec 32 := 0#32
  let c0_i32_83 : BitVec 32 := 0#32
  ![v232.toNat, 0, 0]
def k0_off3 (k0_t1 : Fin k0_t1_loop.trips) : Fin 2 → Nat :=
  let c0_i32_84 : BitVec 32 := 0#32
  let c0_i32_15 : BitVec 32 := 0#32
  let c1_i32_16 : BitVec 32 := 1#32
  let arg8 : BitVec 32 := Scf.iv c0_i32_15 c1_i32_16 k0_t1
  let c1024_i32_81 : BitVec 32 := 1024#32
  let v233 : BitVec 32 := Scalar.muli arg8 c1024_i32_81
  ![0, v233.toNat]
def k0_off4 (k0_t1 : Fin k0_t1_loop.trips) : Fin 3 → Nat :=
  let c0_i32_15 : BitVec 32 := 0#32
  let c1_i32_16 : BitVec 32 := 1#32
  let arg8 : BitVec 32 := Scf.iv c0_i32_15 c1_i32_16 k0_t1
  let c2_i32_80 : BitVec 32 := 2#32
  let v232 : BitVec 32 := Scalar.remsi arg8 c2_i32_80
  let v422 : Index := Scalar.indexCast v232
  let c0_147 : Index := 0#32
  let c0_148 : Index := 0#32
  ![v422.toNat, 0, 0]
def k0_cond1 (k0_t1 : Fin k0_t1_loop.trips) : BitVec 1 :=
  let c0_i32_15 : BitVec 32 := 0#32
  let c1_i32_16 : BitVec 32 := 1#32
  let arg8 : BitVec 32 := Scf.iv c0_i32_15 c1_i32_16 k0_t1
  let c2_i32_158 : BitVec 32 := 2#32
  let v439 : BitVec 32 := Scalar.addi arg8 c2_i32_158
  let c97_i32_159 : BitVec 32 := 97#32
  let v440 : BitVec 1 := Scalar.cmpi .slt v439 c97_i32_159
  let v441 : BitVec 32 := Scalar.extui v440
  let c0_i32_160 : BitVec 32 := 0#32
  let v442 : BitVec 1 := Scalar.cmpi .ne v441 c0_i32_160
  v442

def k0_off5 (k0_t1 : Fin k0_t1_loop.trips) : Fin 1 → Nat :=
  let c0_i32_15 : BitVec 32 := 0#32
  let c1_i32_16 : BitVec 32 := 1#32
  let arg8 : BitVec 32 := Scf.iv c0_i32_15 c1_i32_16 k0_t1
  let c2_i32_80 : BitVec 32 := 2#32
  let v232 : BitVec 32 := Scalar.remsi arg8 c2_i32_80
  ![v232.toNat]
def k0_off6 (k0_t1 : Fin k0_t1_loop.trips) : Fin 3 → Nat :=
  let c0_i32_15 : BitVec 32 := 0#32
  let c1_i32_16 : BitVec 32 := 1#32
  let arg8 : BitVec 32 := Scf.iv c0_i32_15 c1_i32_16 k0_t1
  let c2_i32_80 : BitVec 32 := 2#32
  let v232 : BitVec 32 := Scalar.remsi arg8 c2_i32_80
  let c0_i32_163 : BitVec 32 := 0#32
  let c0_i32_164 : BitVec 32 := 0#32
  ![v232.toNat, 0, 0]
def k0_off7 (k0_t1 : Fin k0_t1_loop.trips) : Fin 2 → Nat :=
  let c0_i32_165 : BitVec 32 := 0#32
  let c0_i32_15 : BitVec 32 := 0#32
  let c1_i32_16 : BitVec 32 := 1#32
  let arg8 : BitVec 32 := Scf.iv c0_i32_15 c1_i32_16 k0_t1
  let c2_i32_161 : BitVec 32 := 2#32
  let v443 : BitVec 32 := Scalar.addi arg8 c2_i32_161
  let c1024_i32_162 : BitVec 32 := 1024#32
  let v444 : BitVec 32 := Scalar.muli v443 c1024_i32_162
  ![0, v444.toNat]
abbrev stage0_0 : Fin 1 → Memref sig .tc .vmem S128x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x672 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S128x100000 : Shape := ⟨2, ![128, 100000]⟩
abbrev S_ : Shape := ⟨0, ![]⟩
abbrev S1 : Shape := ⟨1, ![1]⟩
abbrev S2 : Shape := ⟨1, ![2]⟩
abbrev S128 : Shape := ⟨1, ![128]⟩

abbrev nBuf : Space → Nat
  | .hbm => 275
  | .vmem => 0
  | .smem => 0
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S128x100000, .i64⟩
  | 16 => ⟨S128x100000, .i64⟩
  | 17 => ⟨S_, .i64⟩
  | 18 => ⟨S128x100000, .i64⟩
  | 19 => ⟨S128x100000, .i64⟩
  | 20 => ⟨S_, .i64⟩
  | 21 => ⟨S128x100000, .i64⟩
  | 22 => ⟨S128x100000, .i64⟩
  | 23 => ⟨S128x100000, .i64⟩
  | 24 => ⟨S_, .i64⟩
  | 25 => ⟨S128x100000, .i64⟩
  | 26 => ⟨S128x100000, .i64⟩
  | 27 => ⟨S128x100000, .i32⟩
  | 28 => ⟨S128x100000, .i32⟩
  | 29 => ⟨S_, .i32⟩
  | 30 => ⟨S_, .i32⟩
  | 31 => ⟨S_, .i32⟩
  | 32 => ⟨S128x100000, .i32⟩
  | 33 => ⟨S128x100000, .i32⟩
  | 34 => ⟨S128x100000, .i32⟩
  | 35 => ⟨S128x100000, .i32⟩
  | 36 => ⟨S128x100000, .i32⟩
  | 37 => ⟨S_, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S128x100000, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S_, .i32⟩
  | 50 => ⟨S128x100000, .i32⟩
  | 51 => ⟨S128x100000, .i32⟩
  | 52 => ⟨S128x100000, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S_, .i32⟩
  | 59 => ⟨S128x100000, .i32⟩
  | 60 => ⟨S128x100000, .i32⟩
  | 61 => ⟨S128x100000, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S_, .i32⟩
  | 68 => ⟨S128x100000, .i32⟩
  | 69 => ⟨S128x100000, .i32⟩
  | 70 => ⟨S128x100000, .i32⟩
  | 71 => ⟨S128x100000, .i32⟩
  | 72 => ⟨S128x100000, .i32⟩
  | 73 => ⟨S128x100000, .i32⟩
  | 74 => ⟨S128x100000, .i32⟩
  | 75 => ⟨S128x100000, .i32⟩
  | 76 => ⟨S_, .i32⟩
  | 77 => ⟨S128x100000, .i32⟩
  | 78 => ⟨S128x100000, .i32⟩
  | 79 => ⟨S128x100000, .i32⟩
  | 80 => ⟨S_, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S128x100000, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S_, .i32⟩
  | 93 => ⟨S128x100000, .i32⟩
  | 94 => ⟨S128x100000, .i32⟩
  | 95 => ⟨S128x100000, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S_, .i32⟩
  | 102 => ⟨S128x100000, .i32⟩
  | 103 => ⟨S128x100000, .i32⟩
  | 104 => ⟨S128x100000, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S_, .i32⟩
  | 111 => ⟨S128x100000, .i32⟩
  | 112 => ⟨S128x100000, .i32⟩
  | 113 => ⟨S128x100000, .i32⟩
  | 114 => ⟨S128x100000, .i32⟩
  | 115 => ⟨S128x100000, .i32⟩
  | 116 => ⟨S128x100000, .i32⟩
  | 117 => ⟨S128x100000, .i32⟩
  | 118 => ⟨S128x100000, .i32⟩
  | 119 => ⟨S_, .i32⟩
  | 120 => ⟨S128x100000, .i32⟩
  | 121 => ⟨S128x100000, .i32⟩
  | 122 => ⟨S128x100000, .i32⟩
  | 123 => ⟨S_, .i32⟩
  | 124 => ⟨S128x100000, .i32⟩
  | 125 => ⟨S128x100000, .i32⟩
  | 126 => ⟨S_, .i32⟩
  | 127 => ⟨S128x100000, .i32⟩
  | _ => ⟨S128x100000, .f32⟩

abbrev hbmTy0_1 (i : Nat) : BufTy := match i % 128 with
  | 0 => ⟨S128x100000, .i32⟩
  | 1 => ⟨S128x100000, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S_, .i32⟩
  | 8 => ⟨S128x100000, .i32⟩
  | 9 => ⟨S128x100000, .i32⟩
  | 10 => ⟨S128x100000, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S_, .i32⟩
  | 17 => ⟨S128x100000, .i32⟩
  | 18 => ⟨S128x100000, .i32⟩
  | 19 => ⟨S128x100000, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S_, .i32⟩
  | 26 => ⟨S128x100000, .i32⟩
  | 27 => ⟨S128x100000, .i32⟩
  | 28 => ⟨S128x100000, .i32⟩
  | 29 => ⟨S128x100000, .i32⟩
  | 30 => ⟨S128x100000, .i32⟩
  | 31 => ⟨S128x100000, .i32⟩
  | 32 => ⟨S128x100000, .i32⟩
  | 33 => ⟨S128x100000, .i32⟩
  | 34 => ⟨S_, .i32⟩
  | 35 => ⟨S128x100000, .i32⟩
  | 36 => ⟨S128x100000, .i32⟩
  | 37 => ⟨S128x100000, .i32⟩
  | 38 => ⟨S_, .i32⟩
  | 39 => ⟨S128x100000, .i32⟩
  | 40 => ⟨S128x100000, .i32⟩
  | 41 => ⟨S_, .i32⟩
  | 42 => ⟨S128x100000, .i32⟩
  | 43 => ⟨S128x100000, .i32⟩
  | 44 => ⟨S128x100000, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S_, .i32⟩
  | 51 => ⟨S128x100000, .i32⟩
  | 52 => ⟨S128x100000, .i32⟩
  | 53 => ⟨S128x100000, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S_, .i32⟩
  | 60 => ⟨S128x100000, .i32⟩
  | 61 => ⟨S128x100000, .i32⟩
  | 62 => ⟨S128x100000, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S_, .i32⟩
  | 69 => ⟨S128x100000, .i32⟩
  | 70 => ⟨S128x100000, .i32⟩
  | 71 => ⟨S128x100000, .i32⟩
  | 72 => ⟨S128x100000, .i32⟩
  | 73 => ⟨S128x100000, .i32⟩
  | 74 => ⟨S128x100000, .i32⟩
  | 75 => ⟨S128x100000, .i32⟩
  | 76 => ⟨S128x100000, .i32⟩
  | 77 => ⟨S_, .i32⟩
  | 78 => ⟨S128x100000, .i32⟩
  | 79 => ⟨S128x100000, .i32⟩
  | 80 => ⟨S128x100000, .i32⟩
  | 81 => ⟨S_, .i32⟩
  | 82 => ⟨S128x100000, .i32⟩
  | 83 => ⟨S128x100000, .i32⟩
  | 84 => ⟨S_, .i32⟩
  | 85 => ⟨S128x100000, .i32⟩
  | 86 => ⟨S128x100000, .i32⟩
  | 87 => ⟨S128x100000, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S_, .i32⟩
  | 94 => ⟨S128x100000, .i32⟩
  | 95 => ⟨S128x100000, .i32⟩
  | 96 => ⟨S128x100000, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S_, .i32⟩
  | 103 => ⟨S128x100000, .i32⟩
  | 104 => ⟨S128x100000, .i32⟩
  | 105 => ⟨S128x100000, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S_, .i32⟩
  | 112 => ⟨S128x100000, .i32⟩
  | 113 => ⟨S128x100000, .i32⟩
  | 114 => ⟨S128x100000, .i32⟩
  | 115 => ⟨S128x100000, .i32⟩
  | 116 => ⟨S128x100000, .i32⟩
  | 117 => ⟨S128x100000, .i32⟩
  | 118 => ⟨S128x100000, .i32⟩
  | 119 => ⟨S128x100000, .i32⟩
  | 120 => ⟨S_, .i32⟩
  | 121 => ⟨S128x100000, .i32⟩
  | 122 => ⟨S128x100000, .i32⟩
  | 123 => ⟨S128x100000, .i32⟩
  | 124 => ⟨S_, .i32⟩
  | 125 => ⟨S128x100000, .i32⟩
  | 126 => ⟨S128x100000, .i32⟩
  | 127 => ⟨S_, .i32⟩
  | _ => ⟨S128x100000, .f32⟩

abbrev hbmTy0_2 (i : Nat) : BufTy := match i % 128 with
  | 0 => ⟨S128x100000, .i32⟩
  | 1 => ⟨S128x100000, .i32⟩
  | 2 => ⟨S128x100000, .f32⟩
  | 3 => ⟨S_, .f32⟩
  | 4 => ⟨S128x100000, .f32⟩
  | 5 => ⟨S128x100000, .f32⟩
  | 6 => ⟨S_, .f32⟩
  | 7 => ⟨S128x100000, .f32⟩
  | 8 => ⟨S128x100000, .f32⟩
  | 9 => ⟨S128x100000, .f32⟩
  | 10 => ⟨S128x100000, .f32⟩
  | 11 => ⟨S128x100000, .f32⟩
  | 12 => ⟨S128x100000, .f32⟩
  | 13 => ⟨S128x100000, .f32⟩
  | 14 => ⟨S128x100000, .i32⟩
  | 15 => ⟨S_, .f32⟩
  | 16 => ⟨S_, .i32⟩
  | 17 => ⟨S128, .f32⟩
  | 18 => ⟨S128, .i32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_2 : Ref sig .tc := ⟨.hbm, 17, rfl⟩
abbrev main_v13 : Ref sig .tc := ⟨.hbm, 18, rfl⟩
abbrev main_v14 : Ref sig .tc := ⟨.hbm, 19, rfl⟩
abbrev main_c_3 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_4 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_c_0 : Ref sig .tc := ⟨.hbm, 37, rfl⟩
abbrev main_call0_v7 : Ref sig .tc := ⟨.hbm, 38, rfl⟩
abbrev main_call0_v8 : Ref sig .tc := ⟨.hbm, 39, rfl⟩
abbrev main_call0_c_1 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_c_2 : Ref sig .tc := ⟨.hbm, 46, rfl⟩
abbrev main_call0_v14 : Ref sig .tc := ⟨.hbm, 47, rfl⟩
abbrev main_call0_v15 : Ref sig .tc := ⟨.hbm, 48, rfl⟩
abbrev main_call0_c_3 : Ref sig .tc := ⟨.hbm, 49, rfl⟩
abbrev main_call0_v16 : Ref sig .tc := ⟨.hbm, 50, rfl⟩
abbrev main_call0_v17 : Ref sig .tc := ⟨.hbm, 51, rfl⟩
abbrev main_call0_v18 : Ref sig .tc := ⟨.hbm, 52, rfl⟩
abbrev main_call0_v19 : Ref sig .tc := ⟨.hbm, 53, rfl⟩
abbrev main_call0_v20 : Ref sig .tc := ⟨.hbm, 54, rfl⟩
abbrev main_call0_c_4 : Ref sig .tc := ⟨.hbm, 55, rfl⟩
abbrev main_call0_v21 : Ref sig .tc := ⟨.hbm, 56, rfl⟩
abbrev main_call0_v22 : Ref sig .tc := ⟨.hbm, 57, rfl⟩
abbrev main_call0_c_5 : Ref sig .tc := ⟨.hbm, 58, rfl⟩
abbrev main_call0_v23 : Ref sig .tc := ⟨.hbm, 59, rfl⟩
abbrev main_call0_v24 : Ref sig .tc := ⟨.hbm, 60, rfl⟩
abbrev main_call0_v25 : Ref sig .tc := ⟨.hbm, 61, rfl⟩
abbrev main_call0_v26 : Ref sig .tc := ⟨.hbm, 62, rfl⟩
abbrev main_call0_v27 : Ref sig .tc := ⟨.hbm, 63, rfl⟩
abbrev main_call0_c_6 : Ref sig .tc := ⟨.hbm, 64, rfl⟩
abbrev main_call0_v28 : Ref sig .tc := ⟨.hbm, 65, rfl⟩
abbrev main_call0_v29 : Ref sig .tc := ⟨.hbm, 66, rfl⟩
abbrev main_call0_c_7 : Ref sig .tc := ⟨.hbm, 67, rfl⟩
abbrev main_call0_v30 : Ref sig .tc := ⟨.hbm, 68, rfl⟩
abbrev main_call0_v31 : Ref sig .tc := ⟨.hbm, 69, rfl⟩
abbrev main_call0_v32 : Ref sig .tc := ⟨.hbm, 70, rfl⟩
abbrev main_call0_v33 : Ref sig .tc := ⟨.hbm, 71, rfl⟩
abbrev main_call0_v34 : Ref sig .tc := ⟨.hbm, 72, rfl⟩
abbrev main_call0_v35 : Ref sig .tc := ⟨.hbm, 73, rfl⟩
abbrev main_call0_v36 : Ref sig .tc := ⟨.hbm, 74, rfl⟩
abbrev main_call0_v37 : Ref sig .tc := ⟨.hbm, 75, rfl⟩
abbrev main_call0_c_8 : Ref sig .tc := ⟨.hbm, 76, rfl⟩
abbrev main_call0_v38 : Ref sig .tc := ⟨.hbm, 77, rfl⟩
abbrev main_call0_v39 : Ref sig .tc := ⟨.hbm, 78, rfl⟩
abbrev main_call0_v40 : Ref sig .tc := ⟨.hbm, 79, rfl⟩
abbrev main_call0_c_9 : Ref sig .tc := ⟨.hbm, 80, rfl⟩
abbrev main_call0_v41 : Ref sig .tc := ⟨.hbm, 81, rfl⟩
abbrev main_call0_v42 : Ref sig .tc := ⟨.hbm, 82, rfl⟩
abbrev main_call0_c_10 : Ref sig .tc := ⟨.hbm, 83, rfl⟩
abbrev main_call0_v43 : Ref sig .tc := ⟨.hbm, 84, rfl⟩
abbrev main_call0_v44 : Ref sig .tc := ⟨.hbm, 85, rfl⟩
abbrev main_call0_v45 : Ref sig .tc := ⟨.hbm, 86, rfl⟩
abbrev main_call0_v46 : Ref sig .tc := ⟨.hbm, 87, rfl⟩
abbrev main_call0_v47 : Ref sig .tc := ⟨.hbm, 88, rfl⟩
abbrev main_call0_c_11 : Ref sig .tc := ⟨.hbm, 89, rfl⟩
abbrev main_call0_v48 : Ref sig .tc := ⟨.hbm, 90, rfl⟩
abbrev main_call0_v49 : Ref sig .tc := ⟨.hbm, 91, rfl⟩
abbrev main_call0_c_12 : Ref sig .tc := ⟨.hbm, 92, rfl⟩
abbrev main_call0_v50 : Ref sig .tc := ⟨.hbm, 93, rfl⟩
abbrev main_call0_v51 : Ref sig .tc := ⟨.hbm, 94, rfl⟩
abbrev main_call0_v52 : Ref sig .tc := ⟨.hbm, 95, rfl⟩
abbrev main_call0_v53 : Ref sig .tc := ⟨.hbm, 96, rfl⟩
abbrev main_call0_v54 : Ref sig .tc := ⟨.hbm, 97, rfl⟩
abbrev main_call0_c_13 : Ref sig .tc := ⟨.hbm, 98, rfl⟩
abbrev main_call0_v55 : Ref sig .tc := ⟨.hbm, 99, rfl⟩
abbrev main_call0_v56 : Ref sig .tc := ⟨.hbm, 100, rfl⟩
abbrev main_call0_c_14 : Ref sig .tc := ⟨.hbm, 101, rfl⟩
abbrev main_call0_v57 : Ref sig .tc := ⟨.hbm, 102, rfl⟩
abbrev main_call0_v58 : Ref sig .tc := ⟨.hbm, 103, rfl⟩
abbrev main_call0_v59 : Ref sig .tc := ⟨.hbm, 104, rfl⟩
abbrev main_call0_v60 : Ref sig .tc := ⟨.hbm, 105, rfl⟩
abbrev main_call0_v61 : Ref sig .tc := ⟨.hbm, 106, rfl⟩
abbrev main_call0_c_15 : Ref sig .tc := ⟨.hbm, 107, rfl⟩
abbrev main_call0_v62 : Ref sig .tc := ⟨.hbm, 108, rfl⟩
abbrev main_call0_v63 : Ref sig .tc := ⟨.hbm, 109, rfl⟩
abbrev main_call0_c_16 : Ref sig .tc := ⟨.hbm, 110, rfl⟩
abbrev main_call0_v64 : Ref sig .tc := ⟨.hbm, 111, rfl⟩
abbrev main_call0_v65 : Ref sig .tc := ⟨.hbm, 112, rfl⟩
abbrev main_call0_v66 : Ref sig .tc := ⟨.hbm, 113, rfl⟩
abbrev main_call0_v67 : Ref sig .tc := ⟨.hbm, 114, rfl⟩
abbrev main_call0_v68 : Ref sig .tc := ⟨.hbm, 115, rfl⟩
abbrev main_call0_v69 : Ref sig .tc := ⟨.hbm, 116, rfl⟩
abbrev main_call0_v70 : Ref sig .tc := ⟨.hbm, 117, rfl⟩
abbrev main_call0_v71 : Ref sig .tc := ⟨.hbm, 118, rfl⟩
abbrev main_call0_c_17 : Ref sig .tc := ⟨.hbm, 119, rfl⟩
abbrev main_call0_v72 : Ref sig .tc := ⟨.hbm, 120, rfl⟩
abbrev main_call0_v73 : Ref sig .tc := ⟨.hbm, 121, rfl⟩
abbrev main_call0_v74 : Ref sig .tc := ⟨.hbm, 122, rfl⟩
abbrev main_call0_c_18 : Ref sig .tc := ⟨.hbm, 123, rfl⟩
abbrev main_call0_v75 : Ref sig .tc := ⟨.hbm, 124, rfl⟩
abbrev main_call0_v76 : Ref sig .tc := ⟨.hbm, 125, rfl⟩
abbrev main_call0_c_19 : Ref sig .tc := ⟨.hbm, 126, rfl⟩
abbrev main_call0_v77 : Ref sig .tc := ⟨.hbm, 127, rfl⟩
abbrev main_call0_v78 : Ref sig .tc := ⟨.hbm, 128, rfl⟩
abbrev main_call0_v79 : Ref sig .tc := ⟨.hbm, 129, rfl⟩
abbrev main_call0_v80 : Ref sig .tc := ⟨.hbm, 130, rfl⟩
abbrev main_call0_v81 : Ref sig .tc := ⟨.hbm, 131, rfl⟩
abbrev main_call0_c_20 : Ref sig .tc := ⟨.hbm, 132, rfl⟩
abbrev main_call0_v82 : Ref sig .tc := ⟨.hbm, 133, rfl⟩
abbrev main_call0_v83 : Ref sig .tc := ⟨.hbm, 134, rfl⟩
abbrev main_call0_c_21 : Ref sig .tc := ⟨.hbm, 135, rfl⟩
abbrev main_call0_v84 : Ref sig .tc := ⟨.hbm, 136, rfl⟩
abbrev main_call0_v85 : Ref sig .tc := ⟨.hbm, 137, rfl⟩
abbrev main_call0_v86 : Ref sig .tc := ⟨.hbm, 138, rfl⟩
abbrev main_call0_v87 : Ref sig .tc := ⟨.hbm, 139, rfl⟩
abbrev main_call0_v88 : Ref sig .tc := ⟨.hbm, 140, rfl⟩
abbrev main_call0_c_22 : Ref sig .tc := ⟨.hbm, 141, rfl⟩
abbrev main_call0_v89 : Ref sig .tc := ⟨.hbm, 142, rfl⟩
abbrev main_call0_v90 : Ref sig .tc := ⟨.hbm, 143, rfl⟩
abbrev main_call0_c_23 : Ref sig .tc := ⟨.hbm, 144, rfl⟩
abbrev main_call0_v91 : Ref sig .tc := ⟨.hbm, 145, rfl⟩
abbrev main_call0_v92 : Ref sig .tc := ⟨.hbm, 146, rfl⟩
abbrev main_call0_v93 : Ref sig .tc := ⟨.hbm, 147, rfl⟩
abbrev main_call0_v94 : Ref sig .tc := ⟨.hbm, 148, rfl⟩
abbrev main_call0_v95 : Ref sig .tc := ⟨.hbm, 149, rfl⟩
abbrev main_call0_c_24 : Ref sig .tc := ⟨.hbm, 150, rfl⟩
abbrev main_call0_v96 : Ref sig .tc := ⟨.hbm, 151, rfl⟩
abbrev main_call0_v97 : Ref sig .tc := ⟨.hbm, 152, rfl⟩
abbrev main_call0_c_25 : Ref sig .tc := ⟨.hbm, 153, rfl⟩
abbrev main_call0_v98 : Ref sig .tc := ⟨.hbm, 154, rfl⟩
abbrev main_call0_v99 : Ref sig .tc := ⟨.hbm, 155, rfl⟩
abbrev main_call0_v100 : Ref sig .tc := ⟨.hbm, 156, rfl⟩
abbrev main_call0_v101 : Ref sig .tc := ⟨.hbm, 157, rfl⟩
abbrev main_call0_v102 : Ref sig .tc := ⟨.hbm, 158, rfl⟩
abbrev main_call0_v103 : Ref sig .tc := ⟨.hbm, 159, rfl⟩
abbrev main_call0_v104 : Ref sig .tc := ⟨.hbm, 160, rfl⟩
abbrev main_call0_v105 : Ref sig .tc := ⟨.hbm, 161, rfl⟩
abbrev main_call0_c_26 : Ref sig .tc := ⟨.hbm, 162, rfl⟩
abbrev main_call0_v106 : Ref sig .tc := ⟨.hbm, 163, rfl⟩
abbrev main_call0_v107 : Ref sig .tc := ⟨.hbm, 164, rfl⟩
abbrev main_call0_v108 : Ref sig .tc := ⟨.hbm, 165, rfl⟩
abbrev main_call0_c_27 : Ref sig .tc := ⟨.hbm, 166, rfl⟩
abbrev main_call0_v109 : Ref sig .tc := ⟨.hbm, 167, rfl⟩
abbrev main_call0_v110 : Ref sig .tc := ⟨.hbm, 168, rfl⟩
abbrev main_call0_c_28 : Ref sig .tc := ⟨.hbm, 169, rfl⟩
abbrev main_call0_v111 : Ref sig .tc := ⟨.hbm, 170, rfl⟩
abbrev main_call0_v112 : Ref sig .tc := ⟨.hbm, 171, rfl⟩
abbrev main_call0_v113 : Ref sig .tc := ⟨.hbm, 172, rfl⟩
abbrev main_call0_v114 : Ref sig .tc := ⟨.hbm, 173, rfl⟩
abbrev main_call0_v115 : Ref sig .tc := ⟨.hbm, 174, rfl⟩
abbrev main_call0_c_29 : Ref sig .tc := ⟨.hbm, 175, rfl⟩
abbrev main_call0_v116 : Ref sig .tc := ⟨.hbm, 176, rfl⟩
abbrev main_call0_v117 : Ref sig .tc := ⟨.hbm, 177, rfl⟩
abbrev main_call0_c_30 : Ref sig .tc := ⟨.hbm, 178, rfl⟩
abbrev main_call0_v118 : Ref sig .tc := ⟨.hbm, 179, rfl⟩
abbrev main_call0_v119 : Ref sig .tc := ⟨.hbm, 180, rfl⟩
abbrev main_call0_v120 : Ref sig .tc := ⟨.hbm, 181, rfl⟩
abbrev main_call0_v121 : Ref sig .tc := ⟨.hbm, 182, rfl⟩
abbrev main_call0_v122 : Ref sig .tc := ⟨.hbm, 183, rfl⟩
abbrev main_call0_c_31 : Ref sig .tc := ⟨.hbm, 184, rfl⟩
abbrev main_call0_v123 : Ref sig .tc := ⟨.hbm, 185, rfl⟩
abbrev main_call0_v124 : Ref sig .tc := ⟨.hbm, 186, rfl⟩
abbrev main_call0_c_32 : Ref sig .tc := ⟨.hbm, 187, rfl⟩
abbrev main_call0_v125 : Ref sig .tc := ⟨.hbm, 188, rfl⟩
abbrev main_call0_v126 : Ref sig .tc := ⟨.hbm, 189, rfl⟩
abbrev main_call0_v127 : Ref sig .tc := ⟨.hbm, 190, rfl⟩
abbrev main_call0_v128 : Ref sig .tc := ⟨.hbm, 191, rfl⟩
abbrev main_call0_v129 : Ref sig .tc := ⟨.hbm, 192, rfl⟩
abbrev main_call0_c_33 : Ref sig .tc := ⟨.hbm, 193, rfl⟩
abbrev main_call0_v130 : Ref sig .tc := ⟨.hbm, 194, rfl⟩
abbrev main_call0_v131 : Ref sig .tc := ⟨.hbm, 195, rfl⟩
abbrev main_call0_c_34 : Ref sig .tc := ⟨.hbm, 196, rfl⟩
abbrev main_call0_v132 : Ref sig .tc := ⟨.hbm, 197, rfl⟩
abbrev main_call0_v133 : Ref sig .tc := ⟨.hbm, 198, rfl⟩
abbrev main_call0_v134 : Ref sig .tc := ⟨.hbm, 199, rfl⟩
abbrev main_call0_v135 : Ref sig .tc := ⟨.hbm, 200, rfl⟩
abbrev main_call0_v136 : Ref sig .tc := ⟨.hbm, 201, rfl⟩
abbrev main_call0_v137 : Ref sig .tc := ⟨.hbm, 202, rfl⟩
abbrev main_call0_v138 : Ref sig .tc := ⟨.hbm, 203, rfl⟩
abbrev main_call0_v139 : Ref sig .tc := ⟨.hbm, 204, rfl⟩
abbrev main_call0_c_35 : Ref sig .tc := ⟨.hbm, 205, rfl⟩
abbrev main_call0_v140 : Ref sig .tc := ⟨.hbm, 206, rfl⟩
abbrev main_call0_v141 : Ref sig .tc := ⟨.hbm, 207, rfl⟩
abbrev main_call0_v142 : Ref sig .tc := ⟨.hbm, 208, rfl⟩
abbrev main_call0_c_36 : Ref sig .tc := ⟨.hbm, 209, rfl⟩
abbrev main_call0_v143 : Ref sig .tc := ⟨.hbm, 210, rfl⟩
abbrev main_call0_v144 : Ref sig .tc := ⟨.hbm, 211, rfl⟩
abbrev main_call0_c_37 : Ref sig .tc := ⟨.hbm, 212, rfl⟩
abbrev main_call0_v145 : Ref sig .tc := ⟨.hbm, 213, rfl⟩
abbrev main_call0_v146 : Ref sig .tc := ⟨.hbm, 214, rfl⟩
abbrev main_call0_v147 : Ref sig .tc := ⟨.hbm, 215, rfl⟩
abbrev main_call0_v148 : Ref sig .tc := ⟨.hbm, 216, rfl⟩
abbrev main_call0_v149 : Ref sig .tc := ⟨.hbm, 217, rfl⟩
abbrev main_call0_c_38 : Ref sig .tc := ⟨.hbm, 218, rfl⟩
abbrev main_call0_v150 : Ref sig .tc := ⟨.hbm, 219, rfl⟩
abbrev main_call0_v151 : Ref sig .tc := ⟨.hbm, 220, rfl⟩
abbrev main_call0_c_39 : Ref sig .tc := ⟨.hbm, 221, rfl⟩
abbrev main_call0_v152 : Ref sig .tc := ⟨.hbm, 222, rfl⟩
abbrev main_call0_v153 : Ref sig .tc := ⟨.hbm, 223, rfl⟩
abbrev main_call0_v154 : Ref sig .tc := ⟨.hbm, 224, rfl⟩
abbrev main_call0_v155 : Ref sig .tc := ⟨.hbm, 225, rfl⟩
abbrev main_call0_v156 : Ref sig .tc := ⟨.hbm, 226, rfl⟩
abbrev main_call0_c_40 : Ref sig .tc := ⟨.hbm, 227, rfl⟩
abbrev main_call0_v157 : Ref sig .tc := ⟨.hbm, 228, rfl⟩
abbrev main_call0_v158 : Ref sig .tc := ⟨.hbm, 229, rfl⟩
abbrev main_call0_c_41 : Ref sig .tc := ⟨.hbm, 230, rfl⟩
abbrev main_call0_v159 : Ref sig .tc := ⟨.hbm, 231, rfl⟩
abbrev main_call0_v160 : Ref sig .tc := ⟨.hbm, 232, rfl⟩
abbrev main_call0_v161 : Ref sig .tc := ⟨.hbm, 233, rfl⟩
abbrev main_call0_v162 : Ref sig .tc := ⟨.hbm, 234, rfl⟩
abbrev main_call0_v163 : Ref sig .tc := ⟨.hbm, 235, rfl⟩
abbrev main_call0_c_42 : Ref sig .tc := ⟨.hbm, 236, rfl⟩
abbrev main_call0_v164 : Ref sig .tc := ⟨.hbm, 237, rfl⟩
abbrev main_call0_v165 : Ref sig .tc := ⟨.hbm, 238, rfl⟩
abbrev main_call0_c_43 : Ref sig .tc := ⟨.hbm, 239, rfl⟩
abbrev main_call0_v166 : Ref sig .tc := ⟨.hbm, 240, rfl⟩
abbrev main_call0_v167 : Ref sig .tc := ⟨.hbm, 241, rfl⟩
abbrev main_call0_v168 : Ref sig .tc := ⟨.hbm, 242, rfl⟩
abbrev main_call0_v169 : Ref sig .tc := ⟨.hbm, 243, rfl⟩
abbrev main_call0_v170 : Ref sig .tc := ⟨.hbm, 244, rfl⟩
abbrev main_v22_0 : Ref sig .tc := ⟨.hbm, 245, rfl⟩
abbrev main_call0_v172 : Ref sig .tc := ⟨.hbm, 246, rfl⟩
abbrev main_call0_v173 : Ref sig .tc := ⟨.hbm, 247, rfl⟩
abbrev main_call0_c_44 : Ref sig .tc := ⟨.hbm, 248, rfl⟩
abbrev main_call0_v174 : Ref sig .tc := ⟨.hbm, 249, rfl⟩
abbrev main_v22_1 : Ref sig .tc := ⟨.hbm, 250, rfl⟩
abbrev main_v23 : Ref sig .tc := ⟨.hbm, 251, rfl⟩
abbrev main_c_5 : Ref sig .tc := ⟨.hbm, 252, rfl⟩
abbrev main_v24 : Ref sig .tc := ⟨.hbm, 253, rfl⟩
abbrev main_v25 : Ref sig .tc := ⟨.hbm, 254, rfl⟩
abbrev main_c_6 : Ref sig .tc := ⟨.hbm, 255, rfl⟩
abbrev main_v26 : Ref sig .tc := ⟨.hbm, 256, rfl⟩
abbrev main_v27 : Ref sig .tc := ⟨.hbm, 257, rfl⟩
abbrev main_v28 : Ref sig .tc := ⟨.hbm, 258, rfl⟩
abbrev main_cst : Ref sig .tc := ⟨.hbm, 259, rfl⟩
abbrev main_v29 : Ref sig .tc := ⟨.hbm, 260, rfl⟩
abbrev main_v30 : Ref sig .tc := ⟨.hbm, 261, rfl⟩
abbrev main_cst_7 : Ref sig .tc := ⟨.hbm, 262, rfl⟩
abbrev main_v31 : Ref sig .tc := ⟨.hbm, 263, rfl⟩
abbrev main_v32 : Ref sig .tc := ⟨.hbm, 264, rfl⟩
abbrev main_v33 : Ref sig .tc := ⟨.hbm, 265, rfl⟩
abbrev main_v34 : Ref sig .tc := ⟨.hbm, 266, rfl⟩
abbrev main_v35 : Ref sig .tc := ⟨.hbm, 267, rfl⟩
abbrev main_v36 : Ref sig .tc := ⟨.hbm, 268, rfl⟩
abbrev main_v37 : Ref sig .tc := ⟨.hbm, 269, rfl⟩
abbrev main_call1_v0 : Ref sig .tc := ⟨.hbm, 270, rfl⟩
abbrev main_call1_cst : Ref sig .tc := ⟨.hbm, 271, rfl⟩
abbrev main_call1_c : Ref sig .tc := ⟨.hbm, 272, rfl⟩
abbrev main_call1_v1_0 : Ref sig .tc := ⟨.hbm, 273, rfl⟩
abbrev main_v38 : Ref sig .tc := ⟨.hbm, 274, rfl⟩

abbrev nD : Nat := 1
abbrev τ : Topo := Topo.v7x

variable {F : FTy → Type} [FloatOps F]
-- ==== Proof.Hand.Trip.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import Idealize.ShloMosaic.Lib.Claim
public import Idealize.ShloMosaic.Lib.VecWindow
public import Idealize.ShloMosaic.Lib.Pipeline.Value

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The buffers the body works on -/

/-- The sampled array, left where it is. -/
abbrev xM : Memref sig .tc .hbm S128x100000 .f32 := Memref.whole main_arg0
/-- The two-slot ring the blocks of the array are copied into. -/
abbrev ringM : Memref sig .tc .vmem S2x128x1024 .f32 := Memref.whole cc0_scratch0
/-- The running maximum of every lane. -/
abbrev accM : Memref sig .tc .vmem S128x1024 .f32 := Memref.whole cc0_scratch1
/-- The first column of the block in which the running maximum was reached. -/
abbrev blkM : Memref sig .tc .vmem S128x1024 .i32 := Memref.whole cc0_scratch2

/-- The semaphore of a slot at an offset. -/
abbrev semAt (o : Fin 1 → ℕ) (h : ∀ a, o a + S1.size a ≤ S2.size a) : DmaSem sig :=
  ((cc0_scratch3.slice (Rect.unit (s := S2) o S1.size h)).squeeze S_ squeezes_S1_S_).sem
/-- The slot of the ring at an offset. -/
abbrev slotAt (o : Fin 3 → ℕ) (h : ∀ a, o a + S1x128x1024.size a ≤ S2x128x1024.size a) : Memref sig .tc .vmem S128x1024 .f32 :=
  (ringM.slice (Rect.unit (s := S2x128x1024) o S1x128x1024.size h) (fun _ => rfl)).squeeze S128x1024 squeezes_S1x128x1024_S128x1024
/-- The block of the array at an offset. -/
abbrev srcAt (o : Fin 2 → ℕ) (h : ∀ a, o a + S128x1024.size a ≤ S128x100000.size a) : Memref sig .tc .hbm S128x1024 .f32 :=
  xM.slice (Rect.unit (s := S128x100000) o S128x1024.size h) (fun _ => rfl)

/-! ## The values of a trip -/

/-- The random words of a block: the mixed counters of trip `k`. -/
def words (v18 : Vec F S128x1024 .i32) (k : Fin k0_t1_loop.trips) : IVec S128x1024 32 :=
  let a := k0_pay9 (k0_pay44 v18) 0#32 1#32 k
  let b := k0_pay10 (k0_pay44 v18) 0#32 1#32 k
  let v242 := Scalar.addi 466689008#32 1#32
  let v243 := Scalar.addi 0#32 2#32
  let v244 := Scalar.addi 42#32 3#32
  let v245 := Scalar.addi 466689008#32 4#32
  let v246 := Scalar.addi 0#32 5#32
  let c := k0_pay19 v242 v243 a b
  let d := k0_pay20 v242 v243 a b
  let e := k0_pay21 v242 v243 a b
  let f := k0_pay22
  k0_pay37 v245 v246 (k0_pay34 v244 c d e f) (k0_pay35 v244 c d e f) (k0_pay36 v244 c d e f)

/-- Gumbel noise of random words: the high 23 bits as a fraction `f`, and `-log(-log(max(tiny, f)))`. -/
def noise (w : IVec S128x1024 32) : FVec F S128x1024 .f32 :=
  subf (broadcast S128x1024 (Scalar.ofBits .f32 0x00000000#32)) (log (subf (broadcast S128x1024 (Scalar.ofBits .f32 0x00000000#32))
    (log (maximumf (broadcast S128x1024 (Scalar.ofBits .f32 0x00800000#32))
      (subf (bitcastToFloat .f32 (ori (shrui w (broadcast S128x1024 9#32)) (broadcast S128x1024 1065353216#32)))
        (broadcast S128x1024 (Scalar.ofBits .f32 0x3F800000#32)))))))

/-- The scores of trip `k`'s block `y`: its noise plus its logits. -/
def score (v18 : Vec F S128x1024 .i32) (k : Fin k0_t1_loop.trips) (y : FVec F S128x1024 .f32) : FVec F S128x1024 .f32 :=
  addf (noise (words v18 k)) y
/-- The running maximum after trip `k` on block `y`. -/
def accNext (v18 : Vec F S128x1024 .i32) (k : Fin k0_t1_loop.trips) (y a : FVec F S128x1024 .f32) : FVec F S128x1024 .f32 :=
  maximumf a (score v18 k y)
/-- The block offsets after trip `k` on block `y`: this block's where it beats the running maximum. -/
def blkNext (v18 : Vec F S128x1024 .i32) (k : Fin k0_t1_loop.trips) (y a : FVec F S128x1024 .f32) (b : IVec S128x1024 32) : IVec S128x1024 32 :=
  select (cmpf .ogt (score v18 k y) a) (broadcast S128x1024 (Scalar.muli (Scf.iv 0#32 1#32 k) 1024#32)) b

/-- The running maximum as the trip stores it. -/
abbrev accStep (v18 : Vec F S128x1024 .i32) (k : Fin k0_t1_loop.trips) (x : Vec F S1x128x1024 .f32) (a : Vec F S128x1024 .f32) :
    Vec F S128x1024 .f32 := k0_pay40 (words v18 k) k0_pay38 x a
/-- The block offsets as the trip stores them. -/
abbrev blkStep (v18 : Vec F S128x1024 .i32) (k : Fin k0_t1_loop.trips) (x : Vec F S1x128x1024 .f32) (a : Vec F S128x1024 .f32)
    (b : Vec F S128x1024 .i32) : Vec F S128x1024 .i32 := k0_pay41 (Scf.iv 0#32 1#32 k) (words v18 k) k0_pay38 x a b

theorem accStep_eq (v18 : Vec F S128x1024 .i32) (k : Fin k0_t1_loop.trips) (x : Vec F S1x128x1024 .f32) (a : Vec F S128x1024 .f32) :
    accStep v18 k x a = accNext v18 k (shapeCast S128x1024 x shapeCasts_S1x128x1024_S128x1024) a := by
  unfold accStep k0_pay40 accNext
  dsimp only; rw [shapeCast_self]; rfl
theorem blkStep_eq (v18 : Vec F S128x1024 .i32) (k : Fin k0_t1_loop.trips) (x : Vec F S1x128x1024 .f32) (a : Vec F S128x1024 .f32)
    (b : Vec F S128x1024 .i32) :
    blkStep v18 k x a b = blkNext v18 k (shapeCast S128x1024 x shapeCasts_S1x128x1024_S128x1024) a b := by
  unfold blkStep k0_pay41 blkNext
  dsimp only; rw [shapeCast_self]; rfl

/-! ## A trip at any offsets -/

/-- What a trip does before it starts the next copy: wait for its slot, read it, fold it into the running maximum. -/
def tripHead (v18 : Vec F S128x1024 .i32) (k : Fin k0_t1_loop.trips)
    (o1 : Fin 1 → ℕ) (h1 : ∀ a, o1 a + S1.size a ≤ S2.size a) (o2 : Fin 3 → ℕ) (h2 : ∀ a, o2 a + S1x128x1024.size a ≤ S2x128x1024.size a)
    (o3 : Fin 2 → ℕ) (h3 : ∀ a, o3 a + S128x1024.size a ≤ S128x100000.size a) :
    Prog (TpuEff nD τ sig (Elt F) Λ₀ .tc) Unit := do
  Prog.lift (.waitDma2 (semAt o1 h1) (srcAt o3 h3) (slotAt o2 h2) (View.wordExact_bits rfl) ((View.wordExact_bits rfl).reshape _ _))
  let x : Vec F S1x128x1024 .f32 ← Prog.lift (.load ringM (Rect.unit (s := S2x128x1024) o2 S1x128x1024.size h2).toLoadRect (View.loadsAt_vmem h_S1x128x1024))
  let a : Vec F S128x1024 .f32 ← Prog.lift (.load accM (Rect.unit (s := S128x1024) ![0, 0] S128x1024.size inb_S128x1024_S128x1024_0_0).toLoadRect (View.loadsAt_vmem h_S128x1024))
  let _a' : Vec F S128x1024 .f32 ← Prog.lift (.load accM (Rect.unit (s := S128x1024) ![0, 0] S128x1024.size inb_S128x1024_S128x1024_0_0).toLoadRect (View.loadsAt_vmem h_S128x1024))
  Prog.lift (.store accM (Rect.unit (s := S128x1024) ![0, 0] S128x1024.size inb_S128x1024_S128x1024_0_0) (accStep v18 k x a) Finset.univ (View.stores_vmem_bits_univ h_S128x1024 rfl) (.inl rfl))
  let b : Vec F S128x1024 .i32 ← Prog.lift (.load blkM (Rect.unit (s := S128x1024) ![0, 0] S128x1024.size inb_S128x1024_S128x1024_0_0).toLoadRect (View.loadsAt_vmem h_S128x1024))
  let _b' : Vec F S128x1024 .i32 ← Prog.lift (.load blkM (Rect.unit (s := S128x1024) ![0, 0] S128x1024.size inb_S128x1024_S128x1024_0_0).toLoadRect (View.loadsAt_vmem h_S128x1024))
  Prog.lift (.store blkM (Rect.unit (s := S128x1024) ![0, 0] S128x1024.size inb_S128x1024_S128x1024_0_0) (blkStep v18 k x a b) Finset.univ (View.stores_vmem_bits_univ h_S128x1024 rfl) (.inl rfl))

/-- The copy of a block into a slot. -/
def copyIn (o1 : Fin 1 → ℕ) (h1 : ∀ a, o1 a + S1.size a ≤ S2.size a) (o2 : Fin 3 → ℕ) (h2 : ∀ a, o2 a + S1x128x1024.size a ≤ S2x128x1024.size a)
    (o3 : Fin 2 → ℕ) (h3 : ∀ a, o3 a + S128x1024.size a ≤ S128x100000.size a) :
    Prog (TpuEff nD τ sig (Elt F) Λ₀ .tc) Unit := do
  Prog.lift (.enqueueDma (srcAt o3 h3) (.here (slotAt o2 h2)) (.dma (semAt o1 h1)) (View.wordExact_bits rfl) ((View.wordExact_bits rfl).reshape _ _) ⟨Or.inl rfl, trivial⟩)

/-- The region of a trip is the head and, while blocks are left, the next copy. -/
theorem body_eq (M1 : Memref sig .tc .vmem S128x1024 .i32) (g1 : M1.IsWhole) (M2 : Memref sig .tc .vmem S128x672 .f32) (g2 : M2.IsWhole)
    (M3 : Memref sig .tc .vmem S128x1 .i32) (g3 : M3.IsWhole) (v18 : Vec F S128x1024 .i32) (k : Fin k0_t1_loop.trips) :
    k0_t1_body xM (Memref.isWhole_whole _) M1 g1 M2 g2 M3 g3 ringM (Memref.isWhole_whole _) accM (Memref.isWhole_whole _) blkM (Memref.isWhole_whole _)
        cc0_scratch3 v18 k ()
      = (do
          tripHead v18 k (k0_off1 k) (k0_off1_inb k) (k0_off2 k) (k0_off2_inb k) (k0_off3 k) (k0_off3_inb k)
          if h : k0_cond1 k = 1#1 then
            copyIn (k0_off5 k) (k0_off5_inb k h) (k0_off6 k) (k0_off6_inb k h) (k0_off7 k) (k0_off7_inb k h)
          else pure ⟨⟩) := by
  unfold k0_t1_body
  rw [k0_part5_eq_skeleton]; unfold k0_part5_skel
  rw [k0_part1_eq_skeleton, k0_part2_eq_skeleton, k0_part3_eq_skeleton, k0_part4_eq_skeleton]
  rfl

end Cert.KernelIdeal.Hand

end
-- ==== Proof.Hand.Ring.lean ====
module

public import proofs.«01_k».proof.Proof.Hand.Trip

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The offsets of a trip -/

theorem off1_eq : ∀ k : Fin k0_t1_loop.trips, k0_off1 k = ![k.val % 2] := by decide
theorem off2_eq : ∀ k : Fin k0_t1_loop.trips, k0_off2 k = ![k.val % 2, 0, 0] := by decide
theorem off3_eq : ∀ k : Fin k0_t1_loop.trips, k0_off3 k = ![0, k.val * 1024] := by decide
theorem off5_eq : ∀ k : Fin k0_t1_loop.trips, k0_off5 k = ![k.val % 2] := by decide
theorem off6_eq : ∀ k : Fin k0_t1_loop.trips, k0_off6 k = ![k.val % 2, 0, 0] := by decide
theorem off7_eq : ∀ k : Fin k0_t1_loop.trips, k0_off7 k = ![0, (k.val + 2) * 1024] := by decide
theorem cond_iff : ∀ k : Fin k0_t1_loop.trips, k0_cond1 k = 1#1 ↔ k.val + 2 < 97 := by decide

theorem inb1 (s : ℕ) (h : s < 2) : ∀ a, (![s] : Fin 1 → ℕ) a + S1.size a ≤ S2.size a := by
  intro a; fin_cases a; show s + 1 ≤ 2; omega
theorem inb2 (s : ℕ) (h : s < 2) : ∀ a, (![s, 0, 0] : Fin 3 → ℕ) a + S1x128x1024.size a ≤ S2x128x1024.size a := by
  intro a; fin_cases a
  · show s + 1 ≤ 2; omega
  · show 0 + 128 ≤ 128; omega
  · show 0 + 1024 ≤ 1024; omega
theorem inb3 (j : ℕ) (h : j < 97) : ∀ a, (![0, j * 1024] : Fin 2 → ℕ) a + S128x1024.size a ≤ S128x100000.size a := by
  intro a; fin_cases a
  · show 0 + 128 ≤ 128; omega
  · show j * 1024 + 1024 ≤ 100000; omega

/-! ## Copies and slots -/

/-- The block of the array at an offset, read. -/
abbrev blkAt (c : Dev nD) (o3 : Fin 2 → ℕ) (h3 : ∀ a, o3 a + S128x1024.size a ≤ S128x100000.size a)
    (X : Buf (Elt F) (xM.view.loc (c : Thread nD τ))) : FVec F S128x1024 .f32 :=
  ReadAs.same.apply ((srcAt o3 h3).view.read (Elt F) X)

/-- A copy in flight: it delivers the slot at the block, and the block's elements of the array back. -/
abbrev flight (c : Dev nD)
    (o1 : Fin 1 → ℕ) (h1 : ∀ a, o1 a + S1.size a ≤ S2.size a) (o2 : Fin 3 → ℕ) (h2 : ∀ a, o2 a + S1x128x1024.size a ≤ S2x128x1024.size a)
    (o3 : Fin 2 → ℕ) (h3 : ∀ a, o3 a + S128x1024.size a ≤ S128x100000.size a) (q : PosShare TreeShare)
    (X : Buf (Elt F) (xM.view.loc (c : Thread nD τ))) (d : Buf (Elt F) ((slotAt o2 h2).view.loc (c : Thread nD τ))) : sProp 𝕄 :=
  Transfers.Flight countersEmb (c : Thread nD τ) (SemLoc.dma (semAt o1 h1)) default 16384
    iprop(((slotAt o2 h2).view.loc (c : Thread nD τ) ↦[(slotAt o2 h2).view.set]{fullShare}
          (slotAt o2 h2).view.writes (Elt F) d [⟨Rect.whole S128x1024, blkAt c o3 h3 X⟩]) ∗
        (srcAt o3 h3).view.loc (c : Thread nD τ) ↦[(srcAt o3 h3).view.set]{q} X)

theorem wp_copyIn (c : Dev nD)
    (o1 : Fin 1 → ℕ) (h1 : ∀ a, o1 a + S1.size a ≤ S2.size a) (o2 : Fin 3 → ℕ) (h2 : ∀ a, o2 a + S1x128x1024.size a ≤ S2x128x1024.size a)
    (o3 : Fin 2 → ℕ) (h3 : ∀ a, o3 a + S128x1024.size a ≤ S128x100000.size a) (q : PosShare TreeShare)
    (X : Buf (Elt F) (xM.view.loc (c : Thread nD τ))) (d : Buf (Elt F) ((slotAt o2 h2).view.loc (c : Thread nD τ))) (Q : Unit → sProp 𝕄) :
    iprop(((srcAt o3 h3).view.loc (c : Thread nD τ) ↦[(srcAt o3 h3).view.set]{q} X) ∗ ((slotAt o2 h2).view.loc (c : Thread nD τ) ↦[(slotAt o2 h2).view.set]{fullShare} d)
        ∗ semVal ((c : Thread nD τ), SemLoc.dma (semAt o1 h1)) 0 ∗ (flight c o1 h1 o2 h2 o3 h3 q X d -∗ Q ⟨⟩))
      ⊢ wp frame (wpE (defs₀ (F := F)) Variants.none c none) Set.univ (copyIn o1 h1 o2 h2 o3 h3) Q := by
  iintro ⟨HX, HD, Hs, Hk⟩
  unfold copyIn
  sl_exec
  sl_step
  iapply Hk
  iexact Hs

/-- A load through the ring at a slot's offset reads the slot's own elements. -/
theorem slot_set (o2 : Fin 3 → ℕ) (h2 : ∀ a, o2 a + S1x128x1024.size a ≤ S2x128x1024.size a) :
    (ringM.access (Rect.unit (s := S2x128x1024) o2 S1x128x1024.size h2)).set ⊆ (slotAt o2 h2).view.set :=
  (View.set_reshape _ _).ge

/-- What the ring reads at a slot a copy has filled, with its unit axis dropped: what was copied. -/
theorem slot_read (o2 : Fin 3 → ℕ) (h2 : ∀ a, o2 a + S1x128x1024.size a ≤ S2x128x1024.size a)
    (d : ringM.view.ty.Contents (Elt F)) (y : FVec F S128x1024 .f32) :
    shapeCast S128x1024 (View.readAt (Elt F) ringM.view (Rect.unit (s := S2x128x1024) o2 S1x128x1024.size h2).toLoadRect
      ((slotAt o2 h2).view.writes (Elt F) d [⟨Rect.whole S128x1024, y⟩])) shapeCasts_S1x128x1024_S128x1024 = y :=
  View.read_writes_whole (slotAt o2 h2).view d y

/-- The window of a whole 128x1024 buffer. -/
abbrev full : Rect S128x1024 := Rect.unit (s := S128x1024) ![0, 0] S128x1024.size inb_S128x1024_S128x1024_0_0

theorem acc_write (a w : FVec F S128x1024 .f32) : accM.view.writes (Elt F) a [⟨full, w⟩] = w :=
  (View.read_whole (Val := Elt F) cc0_scratch1 _).symm.trans (View.read_writes_full (Val := Elt F) accM.view a inb_S128x1024_S128x1024_0_0 w [])
theorem blk_write (b w : IVec S128x1024 32) : blkM.view.writes (Elt F) b [⟨full, w⟩] = w :=
  (View.read_whole (Val := Elt F) cc0_scratch2 _).symm.trans (View.read_writes_full (Val := Elt F) blkM.view b inb_S128x1024_S128x1024_0_0 w [])
theorem acc_read (a : FVec F S128x1024 .f32) : View.readAt (Elt F) accM.view full.toLoadRect a = a :=
  View.readAt_full (Val := Elt F) accM.view a inb_S128x1024_S128x1024_0_0
theorem blk_read (b : IVec S128x1024 32) : View.readAt (Elt F) blkM.view full.toLoadRect b = b :=
  View.readAt_full (Val := Elt F) blkM.view b inb_S128x1024_S128x1024_0_0

theorem acc_after (v18 : Vec F S128x1024 .i32) (k : Fin k0_t1_loop.trips) (x : Vec F S1x128x1024 .f32) (y a : FVec F S128x1024 .f32)
    (hx : shapeCast S128x1024 x shapeCasts_S1x128x1024_S128x1024 = y) :
    accM.view.writes (Elt F) a [⟨full, accStep v18 k x (View.readAt (Elt F) accM.view full.toLoadRect a)⟩] = accNext v18 k y a := by
  rw [acc_write, acc_read, accStep_eq, hx]
theorem blk_after (v18 : Vec F S128x1024 .i32) (k : Fin k0_t1_loop.trips) (x : Vec F S1x128x1024 .f32) (y a : FVec F S128x1024 .f32)
    (b : IVec S128x1024 32) (hx : shapeCast S128x1024 x shapeCasts_S1x128x1024_S128x1024 = y) :
    blkM.view.writes (Elt F) b [⟨full, blkStep v18 k x (View.readAt (Elt F) accM.view full.toLoadRect a)
      (View.readAt (Elt F) blkM.view full.toLoadRect b)⟩] = blkNext v18 k y a b := by
  rw [blk_write, acc_read, blk_read, blkStep_eq, hx]

theorem wp_head (c : Dev nD) (v18 : Vec F S128x1024 .i32) (k : Fin k0_t1_loop.trips)
    (o1 : Fin 1 → ℕ) (h1 : ∀ a, o1 a + S1.size a ≤ S2.size a) (o2 : Fin 3 → ℕ) (h2 : ∀ a, o2 a + S1x128x1024.size a ≤ S2x128x1024.size a)
    (o3 : Fin 2 → ℕ) (h3 : ∀ a, o3 a + S128x1024.size a ≤ S128x100000.size a) (q : PosShare TreeShare)
    (X : Buf (Elt F) (xM.view.loc (c : Thread nD τ))) (d : Buf (Elt F) ((slotAt o2 h2).view.loc (c : Thread nD τ)))
    (a : FVec F S128x1024 .f32) (b : IVec S128x1024 32) (W : Waits sig Unit) (Q : Unit → sProp 𝕄) :
    iprop(flight c o1 h1 o2 h2 o3 h3 q X d ∗ (accM.view.loc (c : Thread nD τ) ↦{fullShare} a) ∗ (blkM.view.loc (c : Thread nD τ) ↦{fullShare} b)
        ∗ owes (c : Thread nD τ) 0 W
        ∗ (((srcAt o3 h3).view.loc (c : Thread nD τ) ↦[(srcAt o3 h3).view.set]{q} X)
            ∗ (∃ d', (slotAt o2 h2).view.loc (c : Thread nD τ) ↦[(slotAt o2 h2).view.set]{fullShare} d')
            ∗ semVal ((c : Thread nD τ), SemLoc.dma (semAt o1 h1)) 0
            ∗ (accM.view.loc (c : Thread nD τ) ↦{fullShare} accNext v18 k (blkAt c o3 h3 X) a)
            ∗ (blkM.view.loc (c : Thread nD τ) ↦{fullShare} blkNext v18 k (blkAt c o3 h3 X) a b)
            ∗ (∃ W', owes (c : Thread nD τ) 0 W') -∗ Q ⟨⟩))
      ⊢ wp frame (wpE (defs₀ (F := F)) Variants.none c none) Set.univ (tripHead v18 k o1 h1 o2 h2 o3 h3) Q := by
  iintro ⟨HF, Ha, Hb, HO, Hk⟩
  have hS := slot_set o2 h2
  unfold tripHead
  set_option sl_exec.respelt true in
  sl_exec
  sl_step
  have hx : shapeCast S128x1024 (wp_head.sl.x c o2 h2 o3 h3 X) shapeCasts_S1x128x1024_S128x1024 = blkAt c o3 h3 X := slot_read o2 h2 _ _
  rw [acc_after v18 k _ _ a hx, blk_after v18 k _ _ a b hx]
  iapply Hk
  isplitl [HF_src]; · iexact HF_src
  isplitl [HF_dst]; · iexists _; iexact HF_dst
  isplitl [HF]; · iexact HF
  isplitl [Ha]; · iexact Ha
  isplitl [Hb]; · iexact Hb
  iexists _; iexact HO

end Cert.KernelIdeal.Hand

end
-- ==== Proof.Hand.Loop.lean ====
module

public import proofs.«01_k».proof.Proof.Hand.Ring

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem trips_eq : k0_t1_loop.trips = 97 := by decide

/-! ## What a slot holds between trips -/

/-- The share of the array lent to the copies of a slot. -/
def qs (s : ℕ) : PosShare TreeShare := if s = 0 then fullShare.left else fullShare.right

/-- Block `j` of the array. -/
abbrev blockM (j : ℕ) (hj : j < 97) : Memref sig .tc .hbm S128x1024 .f32 := srcAt ![0, j * 1024] (inb3 j hj)
/-- Block `j` of the array, read. -/
abbrev blockOf (c : Dev nD) (X : Buf (Elt F) (xM.view.loc (c : Thread nD τ))) (j : ℕ) (hj : j < 97) : FVec F S128x1024 .f32 :=
  blkAt c ![0, j * 1024] (inb3 j hj) X

/-- A slot no copy is under way into: its elements, its semaphore at zero and its share of the array. -/
def idle (c : Dev nD) (X : Buf (Elt F) (xM.view.loc (c : Thread nD τ))) (s : ℕ) (hs : s < 2) : sProp 𝕄 :=
  iprop((∃ d, (slotAt ![s, 0, 0] (inb2 s hs)).view.loc (c : Thread nD τ) ↦[(slotAt ![s, 0, 0] (inb2 s hs)).view.set]{fullShare} d)
    ∗ semVal ((c : Thread nD τ), SemLoc.dma (semAt ![s] (inb1 s hs))) 0
    ∗ (xM.view.loc (c : Thread nD τ) ↦{qs s} X))

/-- A slot block `j` is on its way into: the copy in flight and the rest of the slot's share of the array. -/
def busy (c : Dev nD) (X : Buf (Elt F) (xM.view.loc (c : Thread nD τ))) (s : ℕ) (hs : s < 2) (j : ℕ) (hj : j < 97) : sProp 𝕄 :=
  iprop((∃ d, flight c ![s] (inb1 s hs) ![s, 0, 0] (inb2 s hs) ![0, j * 1024] (inb3 j hj) (qs s) X d)
    ∗ (xM.view.loc (c : Thread nD τ) ↦[Finset.univ \ (blockM j hj).view.set]{qs s} X))

/-- Starting the copy of block `j` into an idle slot makes it busy. -/
theorem wp_start (c : Dev nD) (X : Buf (Elt F) (xM.view.loc (c : Thread nD τ))) (s : ℕ) (hs : s < 2) (j : ℕ) (hj : j < 97)
    (o1 : Fin 1 → ℕ) (h1 : ∀ a, o1 a + S1.size a ≤ S2.size a) (o2 : Fin 3 → ℕ) (h2 : ∀ a, o2 a + S1x128x1024.size a ≤ S2x128x1024.size a)
    (o3 : Fin 2 → ℕ) (h3 : ∀ a, o3 a + S128x1024.size a ≤ S128x100000.size a)
    (e1 : o1 = ![s]) (e2 : o2 = ![s, 0, 0]) (e3 : o3 = ![0, j * 1024]) (Q : Unit → sProp 𝕄) :
    iprop(idle c X s hs ∗ (busy c X s hs j hj -∗ Q ⟨⟩))
      ⊢ wp frame (wpE (defs₀ (F := F)) Variants.none c none) Set.univ (copyIn o1 h1 o2 h2 o3 h3) Q := by
  subst e1; subst e2; subst e3
  unfold idle busy
  iintro ⟨⟨⟨%d, Hd⟩, Hs, HX⟩, Hk⟩
  ihave HX := (pointsTo_split_subset (q := qs s) (f := X) (Finset.subset_univ (blockM j hj).view.set)).1 $$ HX
  icases HX with ⟨HX, HR⟩
  iapply (wp_copyIn c ![s] h1 ![s, 0, 0] h2 ![0, j * 1024] h3 (qs s) X d Q)
  isplitl [HX]; · iexact HX
  isplitl [Hd]; · iexact Hd
  isplitl [Hs]; · iexact Hs
  iintro HF
  iapply Hk
  isplitl [HF]
  · iexists d; iexact HF
  · iexact HR

/-- Starting a copy before anything else. -/
theorem wp_start_bind (c : Dev nD) (X : Buf (Elt F) (xM.view.loc (c : Thread nD τ))) (s : ℕ) (hs : s < 2) (j : ℕ) (hj : j < 97)
    (o1 : Fin 1 → ℕ) (h1 : ∀ a, o1 a + S1.size a ≤ S2.size a) (o2 : Fin 3 → ℕ) (h2 : ∀ a, o2 a + S1x128x1024.size a ≤ S2x128x1024.size a)
    (o3 : Fin 2 → ℕ) (h3 : ∀ a, o3 a + S128x1024.size a ≤ S128x100000.size a)
    (e1 : o1 = ![s]) (e2 : o2 = ![s, 0, 0]) (e3 : o3 = ![0, j * 1024])
    {β : Type} (k : Unit → Prog (TpuEff nD τ sig (Elt F) Λ₀ .tc) β) (Q : β → sProp 𝕄) :
    iprop(idle c X s hs ∗ (busy c X s hs j hj -∗ wp frame (wpE (defs₀ (F := F)) Variants.none c none) Set.univ (k ⟨⟩) Q))
      ⊢ wp frame (wpE (defs₀ (F := F)) Variants.none c none) Set.univ (copyIn o1 h1 o2 h2 o3 h3 >>= k) Q := by
  rw [wp_bind]
  exact wp_start c X s hs j hj o1 h1 o2 h2 o3 h3 e1 e2 e3
    (fun a => wp frame (wpE (defs₀ (F := F)) Variants.none c none) Set.univ (k a) Q)

/-- The head of a trip empties its busy slot into the running maximum. -/
theorem wp_fold (c : Dev nD) (X : Buf (Elt F) (xM.view.loc (c : Thread nD τ))) (s : ℕ) (hs : s < 2) (j : ℕ) (hj : j < 97)
    (v18 : Vec F S128x1024 .i32) (k : Fin k0_t1_loop.trips)
    (o1 : Fin 1 → ℕ) (h1 : ∀ a, o1 a + S1.size a ≤ S2.size a) (o2 : Fin 3 → ℕ) (h2 : ∀ a, o2 a + S1x128x1024.size a ≤ S2x128x1024.size a)
    (o3 : Fin 2 → ℕ) (h3 : ∀ a, o3 a + S128x1024.size a ≤ S128x100000.size a)
    (e1 : o1 = ![s]) (e2 : o2 = ![s, 0, 0]) (e3 : o3 = ![0, j * 1024])
    (a : FVec F S128x1024 .f32) (b : IVec S128x1024 32) (Q : Unit → sProp 𝕄) :
    iprop(busy c X s hs j hj ∗ (accM.view.loc (c : Thread nD τ) ↦{fullShare} a) ∗ (blkM.view.loc (c : Thread nD τ) ↦{fullShare} b)
        ∗ (∃ W : Waits sig Unit, owes (c : Thread nD τ) 0 W)
        ∗ (idle c X s hs
            ∗ (accM.view.loc (c : Thread nD τ) ↦{fullShare} accNext v18 k (blockOf c X j hj) a)
            ∗ (blkM.view.loc (c : Thread nD τ) ↦{fullShare} blkNext v18 k (blockOf c X j hj) a b)
            ∗ (∃ W : Waits sig Unit, owes (c : Thread nD τ) 0 W) -∗ Q ⟨⟩))
      ⊢ wp frame (wpE (defs₀ (F := F)) Variants.none c none) Set.univ (tripHead v18 k o1 h1 o2 h2 o3 h3) Q := by
  subst e1; subst e2; subst e3
  unfold idle busy
  iintro ⟨⟨⟨%d, HF⟩, HR⟩, Ha, Hb, ⟨%W, HO⟩, Hk⟩
  iapply (wp_head c v18 k ![s] h1 ![s, 0, 0] h2 ![0, j * 1024] h3 (qs s) X d a b W Q)
  isplitl [HF]; · iexact HF
  isplitl [Ha]; · iexact Ha
  isplitl [Hb]; · iexact Hb
  isplitl [HO]; · iexact HO
  iintro ⟨HX, Hd, Hs, Ha, Hb, HO⟩
  iapply Hk
  isplitl [HX HR Hd Hs]
  · isplitl [Hd]; · iexact Hd
    isplitl [Hs]; · iexact Hs
    iapply (pointsTo_split_subset (q := qs s) (f := X) (Finset.subset_univ (blockM j hj).view.set)).2
    isplitl [HX]; · iexact HX
    iexact HR
  isplitl [Ha]; · iexact Ha
  isplitl [Hb]; · iexact Hb
  iexact HO

/-! ## The loop -/

/-- The running maximum and block offsets before trip `k`. -/
def runAt (c : Dev nD) (X : Buf (Elt F) (xM.view.loc (c : Thread nD τ))) (v18 : Vec F S128x1024 .i32) : ℕ → FVec F S128x1024 .f32 × IVec S128x1024 32
  | 0 => (k0_pay42, k0_pay43)
  | k + 1 =>
    if h : k < 97 then
      (accNext v18 ⟨k, h⟩ (blockOf c X k h) (runAt c X v18 k).1, blkNext v18 ⟨k, h⟩ (blockOf c X k h) (runAt c X v18 k).1 (runAt c X v18 k).2)
    else runAt c X v18 k

/-- The slot block `j` uses: busy with it while there is such a block, idle after the last. -/
def role (c : Dev nD) (X : Buf (Elt F) (xM.view.loc (c : Thread nD τ))) (j : ℕ) : sProp 𝕄 :=
  if h : j < 97 then busy c X (j % 2) (Nat.mod_lt _ (by decide)) j h else idle c X (j % 2) (Nat.mod_lt _ (by decide))

/-- Before trip `k`: blocks `k` and `k + 1` on their way, and the maximum of the blocks before them. -/
def inv (c : Dev nD) (X : Buf (Elt F) (xM.view.loc (c : Thread nD τ))) (v18 : Vec F S128x1024 .i32) (k : ℕ) (_ : Unit) : sProp 𝕄 :=
  iprop(role c X k ∗ role c X (k + 1)
    ∗ (accM.view.loc (c : Thread nD τ) ↦{fullShare} (runAt c X v18 k).1) ∗ (blkM.view.loc (c : Thread nD τ) ↦{fullShare} (runAt c X v18 k).2)
    ∗ (∃ W : Waits sig Unit, owes (c : Thread nD τ) 0 W))

theorem role_busy (c : Dev nD) (X : Buf (Elt F) (xM.view.loc (c : Thread nD τ))) (j : ℕ) (h : j < 97) :
    role c X j = busy c X (j % 2) (Nat.mod_lt _ (by decide)) j h := dif_pos h
theorem role_idle (c : Dev nD) (X : Buf (Elt F) (xM.view.loc (c : Thread nD τ))) (j : ℕ) (h : ¬ j < 97) :
    role c X j = idle c X (j % 2) (Nat.mod_lt _ (by decide)) := dif_neg h
/-- The slot block `k` leaves is the one block `k + 2` takes. -/
theorem idle_next (c : Dev nD) (X : Buf (Elt F) (xM.view.loc (c : Thread nD τ))) (k : ℕ) :
    idle c X (k % 2) (Nat.mod_lt _ (by decide)) = idle c X ((k + 2) % 2) (Nat.mod_lt _ (by decide)) := by
  congr 1; omega

/-- The end of a trip: the emptied slot takes block `k + 2` if there is one. -/
theorem wp_next (c : Dev nD) (X : Buf (Elt F) (xM.view.loc (c : Thread nD τ))) (k : Fin k0_t1_loop.trips) (Q : Unit → sProp 𝕄) :
    iprop(idle c X (k.val % 2) (Nat.mod_lt _ (by decide)) ∗ (role c X (k.val + 1 + 1) -∗ Q ⟨⟩))
      ⊢ wp frame (wpE (defs₀ (F := F)) Variants.none c none) Set.univ
        (if h : k0_cond1 k = 1#1 then
            copyIn (k0_off5 k) (k0_off5_inb k h) (k0_off6 k) (k0_off6_inb k h) (k0_off7 k) (k0_off7_inb k h)
          else pure ⟨⟩) Q := by
  rw [idle_next c X k.val]
  by_cases h : k.val + 2 < 97
  · rw [dif_pos ((cond_iff k).2 h), role_busy c X (k.val + 1 + 1) h]
    exact wp_start c X ((k.val + 2) % 2) (Nat.mod_lt _ (by decide)) (k.val + 2) h _ _ _ _ _ _
      ((off5_eq k).trans (by congr 1; omega)) ((off6_eq k).trans (by congr 1; omega)) (off7_eq k) Q
  · rw [dif_neg (fun hc => h ((cond_iff k).1 hc)), role_idle c X (k.val + 1 + 1) h]
    iintro ⟨H0, Hk⟩
    sl_step
    iapply Hk
    iexact H0

/-- One trip. -/
theorem step (c : Dev nD) (X : Buf (Elt F) (xM.view.loc (c : Thread nD τ)))
    (M1 : Memref sig .tc .vmem S128x1024 .i32) (g1 : M1.IsWhole) (M2 : Memref sig .tc .vmem S128x672 .f32) (g2 : M2.IsWhole)
    (M3 : Memref sig .tc .vmem S128x1 .i32) (g3 : M3.IsWhole) (v18 : Vec F S128x1024 .i32) (k : Fin k0_t1_loop.trips) :
    inv c X v18 k.val () ⊢ wp frame (wpE (defs₀ (F := F)) Variants.none c none) Set.univ
      (k0_t1_body xM (Memref.isWhole_whole _) M1 g1 M2 g2 M3 g3 ringM (Memref.isWhole_whole _) accM (Memref.isWhole_whole _) blkM (Memref.isWhole_whole _)
        cc0_scratch3 v18 k ()) (inv c X v18 (k.val + 1)) := by
  have hk : k.val < 97 := k.isLt
  have hrun : runAt c X v18 (k.val + 1) = (accNext v18 k (blockOf c X k.val hk) (runAt c X v18 k.val).1,
      blkNext v18 k (blockOf c X k.val hk) (runAt c X v18 k.val).1 (runAt c X v18 k.val).2) := by
    rw [runAt, dif_pos hk]
  rw [body_eq]
  unfold inv
  rw [hrun, role_busy c X k.val hk, wp_bind]
  iintro ⟨H0, H1, Ha, Hb, HO⟩
  iapply (wp_fold c X (k.val % 2) (Nat.mod_lt _ (by decide)) k.val hk v18 k _ _ _ _ _ _ (off1_eq k) (off2_eq k) (off3_eq k))
  isplitl [H0]; · iexact H0
  isplitl [Ha]; · iexact Ha
  isplitl [Hb]; · iexact Hb
  isplitl [HO]; · iexact HO
  iintro ⟨H0, Ha, Hb, HO⟩
  iapply (wp_next c X k)
  isplitl [H0]; · iexact H0
  iintro H2
  isplitl [H1]; · iexact H1
  isplitl [H2]; · iexact H2
  isplitl [Ha]; · iexact Ha
  isplitl [Hb]; · iexact Hb
  iexact HO

end Cert.KernelIdeal.Hand

end
-- ==== Proof.Hand.Body.lean ====
module

public import proofs.«01_k».proof.Proof.Hand.Loop
public import Idealize.ShloMosaic.Lib.ViewIndex

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The body in three pieces -/

/-- The window of the columns left after the last whole block. -/
abbrev left : Rect S128x1024 := Rect.unit (s := S128x1024) ![0, 0] S128x672.size inb_S128x1024_S128x672_0_0

/-- The scores of the last columns: their noise plus their logits. -/
def lastScore (v18 : Vec F S128x1024 .i32) (e : Vec F S128x672 .f32) : FVec F S128x672 .f32 :=
  let v23 : IVec S128x672 32 := k0_pay45 v18
  let v24 : BitVec 32 := Scalar.addi 466689008#32 1#32
  let v25 : BitVec 32 := Scalar.addi 0#32 2#32
  let v26 : BitVec 32 := Scalar.addi 42#32 3#32
  let v27 : BitVec 32 := Scalar.addi 466689008#32 4#32
  let v28 : BitVec 32 := Scalar.addi 0#32 5#32
  let v66 := k0_pay54 v23 v24
  let v67 := k0_pay55 v23 v24
  let v112 := k0_pay66 v25 v66 v67 29#32
  let v113 := k0_pay67 v25 v66 v67 29#32
  let v114 := k0_pay68
  k0_pay80 v28 (k0_pay78 v26 v27 v112 v113 v114) (k0_pay79 v26 v27 v112 v113 v114) e

/-- The running maximum after the last columns. -/
abbrev accEnd (v18 : Vec F S128x1024 .i32) (e : Vec F S128x672 .f32) (a : FVec F S128x1024 .f32) : FVec F S128x1024 .f32 :=
  accM.view.writes (Elt F) a [⟨left, k0_pay1 (lastScore v18 e) (View.readAt (Elt F) accM.view left.toLoadRect a)⟩]
/-- The block offsets after the last columns. -/
abbrev blkEnd (v18 : Vec F S128x1024 .i32) (e : Vec F S128x672 .f32) (a : FVec F S128x1024 .f32) (b : IVec S128x1024 32) : IVec S128x1024 32 :=
  blkM.view.writes (Elt F) b [⟨left, k0_pay2 (lastScore v18 e) (View.readAt (Elt F) accM.view left.toLoadRect a)
    (View.readAt (Elt F) blkM.view left.toLoadRect b)⟩]

/-- The copies of the first two blocks are started, the running maximum is set to the least value and the counters are read. -/
def opening (M1 : Memref sig .tc .vmem S128x1024 .i32) : Prog (TpuEff nD τ sig (Elt F) Λ₀ .tc) (Vec F S128x1024 .i32) := do
  copyIn ![0] (inb1 0 (by decide)) ![0, 0, 0] (inb2 0 (by decide)) ![0, 0] inb_S128x100000_S128x1024_0_0
  copyIn ![1] (inb1 1 (by decide)) ![1, 0, 0] (inb2 1 (by decide)) ![0, 1024] inb_S128x100000_S128x1024_0_1024
  let _a : Vec F S128x1024 .f32 ← Prog.lift (.load accM full.toLoadRect (View.loadsAt_vmem h_S128x1024))
  Prog.lift (.store accM full (k0_pay42 (F := F)) Finset.univ (View.stores_vmem_bits_univ h_S128x1024 rfl) (.inl rfl))
  let _b : Vec F S128x1024 .i32 ← Prog.lift (.load blkM full.toLoadRect (View.loadsAt_vmem h_S128x1024))
  Prog.lift (.store blkM full k0_pay43 Finset.univ (View.stores_vmem_bits_univ h_S128x1024 rfl) (.inl rfl))
  Prog.lift (.load M1 full.toLoadRect (View.loadsAt_vmem h_S128x1024))

/-- The last columns are folded in and each row's first maximum is found. -/
def closing (M2 : Memref sig .tc .vmem S128x672 .f32) (M3 : Memref sig .tc .vmem S128x1 .i32) (v23 : IVec S128x672 32) (v24 v25 : BitVec 32) :
    Prog (TpuEff nD τ sig (Elt F) Λ₀ .tc) PUnit := do
  let e : Vec F S128x672 .f32 ← Prog.lift (.load M2 (Rect.unit (s := S128x672) ![0, 0] S128x672.size inb_S128x672_S128x672_0_0).toLoadRect (View.loadsAt_vmem h_S128x672))
  let v206 : FVec F S128x672 .f32 :=
    k0_pay80 (Scalar.addi 0#32 5#32)
      (k0_pay78 (Scalar.addi 42#32 3#32) (Scalar.addi 466689008#32 4#32) (k0_pay66 v25 (k0_pay54 v23 v24) (k0_pay55 v23 v24) 29#32)
        (k0_pay67 v25 (k0_pay54 v23 v24) (k0_pay55 v23 v24) 29#32) k0_pay68)
      (k0_pay79 (Scalar.addi 42#32 3#32) (Scalar.addi 466689008#32 4#32) (k0_pay66 v25 (k0_pay54 v23 v24) (k0_pay55 v23 v24) 29#32)
        (k0_pay67 v25 (k0_pay54 v23 v24) (k0_pay55 v23 v24) 29#32) k0_pay68) e
  let v207 : Vec F S128x672 .f32 ← Prog.lift (.load accM left.toLoadRect (View.loadsAt_vmem h_S128x672))
  let _v209 : Vec F S128x672 .f32 ← Prog.lift (.load accM left.toLoadRect (View.loadsAt_vmem h_S128x672))
  Prog.lift (.store accM left (k0_pay1 v206 v207) Finset.univ (View.stores_vmem_bits_univ h_S128x672 rfl) (.inl rfl))
  let v213 : Vec F S128x672 .i32 ← Prog.lift (.load blkM left.toLoadRect (View.loadsAt_vmem h_S128x672))
  let _v216 : Vec F S128x672 .i32 ← Prog.lift (.load blkM left.toLoadRect (View.loadsAt_vmem h_S128x672))
  Prog.lift (.store blkM left (k0_pay2 v206 v207 v213) Finset.univ (View.stores_vmem_bits_univ h_S128x672 rfl) (.inl rfl))
  let v219 : Vec F S128x1024 .f32 ← Prog.lift (.load accM full.toLoadRect (View.loadsAt_vmem h_S128x1024))
  let v221 : Vec F S128x1024 .i32 ← Prog.lift (.load blkM full.toLoadRect (View.loadsAt_vmem h_S128x1024))
  let _v231 : Vec F S128x1 .i32 ← Prog.lift (.load M3 (Rect.unit (s := S128x1) ![0, 0] S128x1.size inb_S128x1_S128x1_0_0).toLoadRect (View.loadsAt_vmem h_S128x1))
  Prog.lift (.store M3 (Rect.unit (s := S128x1) ![0, 0] S128x1.size inb_S128x1_S128x1_0_0) (k0_pay3 v219 v221) Finset.univ (View.stores_vmem_bits_univ h_S128x1 rfl) (.inl rfl))

/-- The whole body: the opening and the loop, then the closing. -/
theorem whole_eq (M1 : Memref sig .tc .vmem S128x1024 .i32) (g1 : M1.IsWhole) (M2 : Memref sig .tc .vmem S128x672 .f32) (g2 : M2.IsWhole)
    (M3 : Memref sig .tc .vmem S128x1 .i32) (g3 : M3.IsWhole) :
    cc0__body (F := F) xM (Memref.isWhole_whole _) M1 g1 M2 g2 M3 g3 ringM (Memref.isWhole_whole _) accM (Memref.isWhole_whole _) blkM (Memref.isWhole_whole _) cc0_scratch3
      = (do
          let ⟨v23, v24, v25⟩ : Σ' (v23 : IVec S128x672 32) (v24 : BitVec 32), BitVec 32 ← (do
            let v18 ← opening M1
            Scf.Loop.for k0_t1_loop k0_t1_ok ⟨⟩ (k0_t1_body xM (Memref.isWhole_whole _) M1 g1 M2 g2 M3 g3 ringM (Memref.isWhole_whole _) accM (Memref.isWhole_whole _) blkM (Memref.isWhole_whole _) cc0_scratch3 v18)
            pure ⟨k0_pay45 v18, Scalar.addi 466689008#32 1#32, Scalar.addi 0#32 2#32⟩)
          closing M2 M3 v23 v24 v25) := by
  rw [cc0__body_eq_skeleton]; unfold cc0__body_skel
  rw [k0_part6_eq_skeleton, k0_part7_eq_skeleton, k0_part8_eq_skeleton, k0_part9_eq_skeleton, k0_part10_eq_skeleton]
  rfl

/-- The opening starts both copies, sets the running maximum and returns the counters. -/
theorem wp_opening (c : Dev nD) (X : Buf (Elt F) (xM.view.loc (c : Thread nD τ))) (M1 : Memref sig .tc .vmem S128x1024 .i32) (g1 : M1.IsWhole)
    (x : Vec F S128x1024 .i32) (a : FVec F S128x1024 .f32) (b : IVec S128x1024 32) (Q : Vec F S128x1024 .i32 → sProp 𝕄) :
    iprop(idle c X 0 (by decide) ∗ idle c X 1 (by decide) ∗ (accM.view.loc (c : Thread nD τ) ↦{fullShare} a) ∗ (blkM.view.loc (c : Thread nD τ) ↦{fullShare} b)
        ∗ (M1.view.loc (c : Thread nD τ) ↦[M1.view.set]{fullShare} g1.unread x)
        ∗ (busy c X 0 (by decide) 0 (by decide) ∗ busy c X 1 (by decide) 1 (by decide)
            ∗ (accM.view.loc (c : Thread nD τ) ↦{fullShare} (k0_pay42 : FVec F S128x1024 .f32)) ∗ (blkM.view.loc (c : Thread nD τ) ↦{fullShare} (k0_pay43 : IVec S128x1024 32))
            ∗ (M1.view.loc (c : Thread nD τ) ↦[M1.view.set]{fullShare} g1.unread x) -∗ Q x))
      ⊢ wp frame (wpE (defs₀ (F := F)) Variants.none c none) Set.univ (opening M1) Q := by
  have hx : View.readAt (Elt F) M1.view full.toLoadRect (g1.unread x) = x :=
    (View.readAt_full (Val := Elt F) M1.view (g1.unread x) inb_S128x1024_S128x1024_0_0).trans (g1.read_unread x)
  unfold opening
  iintro ⟨H0, H1, Ha, Hb, HM, Hk⟩
  iapply (wp_start_bind c X 0 (by decide) 0 (by decide) _ _ _ _ _ _ rfl rfl rfl)
  isplitl [H0]; · iexact H0
  iintro H0
  iapply (wp_start_bind c X 1 (by decide) 1 (by decide) _ _ _ _ _ _ rfl rfl rfl)
  isplitl [H1]; · iexact H1
  iintro H1
  sl_exec
  sl_step
  rw [acc_write, blk_write]
  iapply Hk
  isplitl [H0]; · iexact H0
  isplitl [H1]; · iexact H1
  isplitl [Ha]; · iexact Ha
  isplitl [Hb]; · iexact Hb
  iexact HM

/-- What the body leaves of a row: the first column in which the running maximum, last columns included, is largest. -/
def outVal (c : Dev nD) (X : Buf (Elt F) (xM.view.loc (c : Thread nD τ))) (x : Vec F S128x1024 .i32) (e : Vec F S128x672 .f32) : IVec S128x1 32 :=
  k0_pay3 (accEnd x e (runAt c X x 97).1) (blkEnd x e (runAt c X x 97).1 (runAt c X x 97).2)

/-- The window of a whole result block. -/
abbrev fullOut : Rect S128x1 := Rect.unit (s := S128x1) ![0, 0] S128x1.size inb_S128x1_S128x1_0_0

/-- The closing stores each row's first maximum. -/
theorem wp_closing (c : Dev nD) (M2 : Memref sig .tc .vmem S128x672 .f32) (g2 : M2.IsWhole)
    (M3 : Memref sig .tc .vmem S128x1 .i32) (g3 : M3.IsWhole) (x : Vec F S128x1024 .i32) (e : Vec F S128x672 .f32)
    (d : Buf (Elt F) (M3.view.loc (c : Thread nD τ)))
    (a : FVec F S128x1024 .f32) (b : IVec S128x1024 32) (Q : PUnit → sProp 𝕄) :
    iprop((accM.view.loc (c : Thread nD τ) ↦{fullShare} a) ∗ (blkM.view.loc (c : Thread nD τ) ↦{fullShare} b)
        ∗ (M2.view.loc (c : Thread nD τ) ↦[M2.view.set]{fullShare} g2.unread e) ∗ (M3.view.loc (c : Thread nD τ) ↦[M3.view.set]{fullShare} d)
        ∗ ((∃ a', accM.view.loc (c : Thread nD τ) ↦{fullShare} a') ∗ (∃ b', blkM.view.loc (c : Thread nD τ) ↦{fullShare} b')
            ∗ (M2.view.loc (c : Thread nD τ) ↦[M2.view.set]{fullShare} g2.unread e)
            ∗ (M3.view.loc (c : Thread nD τ) ↦[M3.view.set]{fullShare} M3.view.writes (Elt F) d [⟨fullOut, k0_pay3 (accEnd x e a) (blkEnd x e a b)⟩]) -∗ Q ⟨⟩))
      ⊢ wp frame (wpE (defs₀ (F := F)) Variants.none c none) Set.univ
        (closing M2 M3 (k0_pay45 x) (Scalar.addi 466689008#32 1#32) (Scalar.addi 0#32 2#32)) Q := by
  have he : View.readAt (Elt F) M2.view (Rect.unit (s := S128x672) ![0, 0] S128x672.size inb_S128x672_S128x672_0_0).toLoadRect (g2.unread e) = e :=
    (View.readAt_full (Val := Elt F) M2.view (g2.unread e) inb_S128x672_S128x672_0_0).trans (g2.read_unread e)
  unfold closing
  iintro ⟨Ha, Hb, HM, HR, Hk⟩
  sl_exec
  sl_step
  have ha : wp_closing.sl.Ha_1 x e a = [⟨left, k0_pay1 (lastScore x e) (View.readAt (Elt F) accM.view left.toLoadRect a)⟩] := by
    rfl
  have hb : wp_closing.sl.Hb_1 x e a b = [⟨left, k0_pay2 (lastScore x e) (View.readAt (Elt F) accM.view left.toLoadRect a)
      (View.readAt (Elt F) blkM.view left.toLoadRect b)⟩] := by
    rfl
  rw [ha, hb, acc_read, blk_read]
  iapply Hk
  isplitl [Ha]; · iexists _; iexact Ha
  isplitl [Hb]; · iexists _; iexact Hb
  isplitl [HM]; · iexact HM
  iexact HR

/-! ## The whole body -/

/-- The elements of a slot, in the ring's buffer. -/
abbrev slotSet (s : ℕ) (hs : s < 2) : Finset ringM.view.ty.Idx := (slotAt ![s, 0, 0] (inb2 s hs)).view.set

/-- The two slots have no element in common. -/
theorem slots_apart : slotSet 1 (by decide) ⊆ Finset.univ \ slotSet 0 (by decide) := by
  have h : Disjoint (slotSet 0 (by decide)) (slotSet 1 (by decide)) :=
    (View.disjoint_slice (v := ringM.view) (r := Rect.unit (s := S2x128x1024) ![0, 0, 0] S1x128x1024.size (inb2 0 (by decide)))
      (r' := Rect.unit (s := S2x128x1024) ![1, 0, 0] S1x128x1024.size (inb2 1 (by decide))) (Rect.unit_disjoint 0 (Or.inl (by decide)))).mono
      (View.set_reshape _ _).le (View.set_reshape _ _).le
  exact fun i hi => Finset.mem_sdiff.mpr ⟨Finset.mem_univ _, fun h0 => Finset.disjoint_left.mp h h0 hi⟩

/-- The ring held whole, the array and the semaphores at zero are two idle slots and what is left of the ring; -/
theorem idle_of (c : Dev nD) (X : Buf (Elt F) (xM.view.loc (c : Thread nD τ))) (f : Buf (Elt F) (ringM.view.loc (c : Thread nD τ))) :
    iprop((ringM.view.loc (c : Thread nD τ) ↦{fullShare} f) ∗ semVal ((c : Thread nD τ), SemLoc.dma 3) 0 ∗ semVal ((c : Thread nD τ), SemLoc.dma 4) 0
        ∗ (xM.view.loc (c : Thread nD τ) ↦{fullShare} X))
      ⊢ iprop(idle c X 0 (by decide) ∗ idle c X 1 (by decide)
        ∗ (ringM.view.loc (c : Thread nD τ) ↦[(Finset.univ \ (slotSet 0 (by decide))) \ (slotSet 1 (by decide))]{fullShare} f)) := by
  unfold idle
  iintro ⟨Hf, Hs0, Hs1, HX⟩
  ihave Hf := (pointsTo_split_subset (q := fullShare) (f := f) (Finset.subset_univ (slotSet 0 (by decide)))).1 $$ Hf
  icases Hf with ⟨H0, Hf⟩
  ihave Hf := (pointsTo_split_subset (q := fullShare) (f := f) (slots_apart)).1 $$ Hf
  icases Hf with ⟨H1, Hf⟩
  ihave HX := (pointsTo_share (f := X) (PosShare.mem_left_op_right fullShare)).1 $$ HX
  icases HX with ⟨HX0, HX1⟩
  isplitl [H0 Hs0 HX0]
  · isplitl [H0]; · iexists f; iexact H0
    isplitl [Hs0]; · iexact Hs0
    iexact HX0
  isplitl [H1 Hs1 HX1]
  · isplitl [H1]; · iexists f; iexact H1
    isplitl [Hs1]; · iexact Hs1
    iexact HX1
  iexact Hf

/-- and back, the ring at some contents. -/
theorem of_idle (c : Dev nD) (X : Buf (Elt F) (xM.view.loc (c : Thread nD τ))) (f : Buf (Elt F) (ringM.view.loc (c : Thread nD τ))) :
    iprop(idle c X 0 (by decide) ∗ idle c X 1 (by decide)
        ∗ (ringM.view.loc (c : Thread nD τ) ↦[(Finset.univ \ (slotSet 0 (by decide))) \ (slotSet 1 (by decide))]{fullShare} f))
      ⊢ iprop((∃ f', ringM.view.loc (c : Thread nD τ) ↦{fullShare} f') ∗ semVal ((c : Thread nD τ), SemLoc.dma 3) 0 ∗ semVal ((c : Thread nD τ), SemLoc.dma 4) 0
        ∗ (xM.view.loc (c : Thread nD τ) ↦{fullShare} X)) := by
  unfold idle
  iintro ⟨⟨⟨%d0, H0⟩, Hs0, HX0⟩, ⟨⟨%d1, H1⟩, Hs1, HX1⟩, Hf⟩
  ihave Hf := (pointsTo_join_subset (ℓ := ringM.view.loc (c : Thread nD τ)) (q := fullShare) (I := slotSet 1 (by decide)) (f := f) (g := d1) slots_apart) $$ [H1 Hf]
  · isplitl [H1]; · iexact H1
    iexact Hf
  ihave Hf := (pointsTo_join_subset (ℓ := ringM.view.loc (c : Thread nD τ)) (q := fullShare) (I := slotSet 0 (by decide)) (g := d0) (Finset.subset_univ _)) $$ [H0 Hf]
  · isplitl [H0]; · iexact H0
    iexact Hf
  ihave HX := (pointsTo_share (f := X) (PosShare.mem_left_op_right fullShare)).2 $$ [HX0 HX1]
  · isplitl [HX0]; · iexact HX0
    iexact HX1
  isplitl [Hf]; · iexists _; iexact Hf
  isplitl [Hs0]; · iexact Hs0
  isplitl [Hs1]; · iexact Hs1
  iexact HX

/-- The opening and the loop. -/
theorem wp_main (c : Dev nD) (X : Buf (Elt F) (xM.view.loc (c : Thread nD τ)))
    (M1 : Memref sig .tc .vmem S128x1024 .i32) (g1 : M1.IsWhole) (M2 : Memref sig .tc .vmem S128x672 .f32) (g2 : M2.IsWhole)
    (M3 : Memref sig .tc .vmem S128x1 .i32) (g3 : M3.IsWhole)
    (x : Vec F S128x1024 .i32) (a : FVec F S128x1024 .f32) (b : IVec S128x1024 32)
    (Q : (Σ' (_ : IVec S128x672 32) (_ : BitVec 32), BitVec 32) → sProp 𝕄) :
    iprop(idle c X 0 (by decide) ∗ idle c X 1 (by decide) ∗ (accM.view.loc (c : Thread nD τ) ↦{fullShare} a) ∗ (blkM.view.loc (c : Thread nD τ) ↦{fullShare} b)
        ∗ (M1.view.loc (c : Thread nD τ) ↦[M1.view.set]{fullShare} g1.unread x) ∗ (∃ W : Waits sig Unit, owes (c : Thread nD τ) 0 W)
        ∗ (idle c X 0 (by decide) ∗ idle c X 1 (by decide)
            ∗ (accM.view.loc (c : Thread nD τ) ↦{fullShare} (runAt c X x 97).1) ∗ (blkM.view.loc (c : Thread nD τ) ↦{fullShare} (runAt c X x 97).2)
            ∗ (M1.view.loc (c : Thread nD τ) ↦[M1.view.set]{fullShare} g1.unread x) ∗ (∃ W : Waits sig Unit, owes (c : Thread nD τ) 0 W)
            -∗ Q ⟨k0_pay45 x, Scalar.addi 466689008#32 1#32, Scalar.addi 0#32 2#32⟩))
      ⊢ wp frame (wpE (defs₀ (F := F)) Variants.none c none) Set.univ (do
            let v18 ← opening M1
            Scf.Loop.for k0_t1_loop k0_t1_ok ⟨⟩ (k0_t1_body xM (Memref.isWhole_whole _) M1 g1 M2 g2 M3 g3 ringM (Memref.isWhole_whole _) accM (Memref.isWhole_whole _) blkM (Memref.isWhole_whole _) cc0_scratch3 v18)
            pure ⟨k0_pay45 v18, Scalar.addi 466689008#32 1#32, Scalar.addi 0#32 2#32⟩) Q := by
  have h97 : inv c X x k0_t1_loop.trips ⟨⟩ = iprop(idle c X 1 (by decide) ∗ idle c X 0 (by decide)
      ∗ (accM.view.loc (c : Thread nD τ) ↦{fullShare} (runAt c X x 97).1) ∗ (blkM.view.loc (c : Thread nD τ) ↦{fullShare} (runAt c X x 97).2)
      ∗ (∃ W : Waits sig Unit, owes (c : Thread nD τ) 0 W)) := by
    rw [trips_eq]; unfold inv
    rw [role_idle c X 97 (by decide), role_idle c X (97 + 1) (by decide)]
  have h0 : iprop(busy c X 0 (by decide) 0 (by decide) ∗ busy c X 1 (by decide) 1 (by decide)
      ∗ (accM.view.loc (c : Thread nD τ) ↦{fullShare} (k0_pay42 : FVec F S128x1024 .f32)) ∗ (blkM.view.loc (c : Thread nD τ) ↦{fullShare} (k0_pay43 : IVec S128x1024 32))
      ∗ (∃ W : Waits sig Unit, owes (c : Thread nD τ) 0 W)) = inv c X x 0 ⟨⟩ := by
    unfold inv
    rw [role_busy c X 0 (by decide), role_busy c X (0 + 1) (by decide)]; rfl
  rw [wp_bind]
  iintro ⟨H0, H1, Ha, Hb, HM, HO, Hk⟩
  iapply (wp_opening c X M1 g1 x a b)
  isplitl [H0]; · iexact H0
  isplitl [H1]; · iexact H1
  isplitl [Ha]; · iexact Ha
  isplitl [Hb]; · iexact Hb
  isplitl [HM]; · iexact HM
  iintro ⟨H0, H1, Ha, Hb, HM⟩
  ihave HI := (Entails.of_eq h0) $$ [H0 H1 Ha Hb HO]
  · isplitl [H0]; · iexact H0
    isplitl [H1]; · iexact H1
    isplitl [Ha]; · iexact Ha
    isplitl [Hb]; · iexact Hb
    iexact HO
  iapply (Scf.wp_for_bind frame (wpE (defs₀ (F := F)) Variants.none c none) Set.univ k0_t1_loop.lb k0_t1_loop.ub k0_t1_loop.st k0_t1_ok ⟨⟩ _
    (inv c X x) (fun k _ => step c X M1 g1 M2 g2 M3 g3 x k)) $$ HI
  iintro %u HI
  ihave HI := (Entails.of_eq h97) $$ HI
  icases HI with ⟨H1, H0, Ha, Hb, HO⟩
  sl_step
  iapply Hk
  isplitl [H0]; · iexact H0
  isplitl [H1]; · iexact H1
  isplitl [Ha]; · iexact Ha
  isplitl [Hb]; · iexact Hb
  isplitl [HM]; · iexact HM
  iexact HO

/-- The body's triple: on staging memrefs holding the counters and the last columns, the array whole and the ring free, it
    leaves each row's first maximum and gives everything else back. -/
theorem kernelRun (c : Dev nD) (X : Buf (Elt F) (xM.view.loc (c : Thread nD τ)))
    (M1 : Memref sig .tc .vmem S128x1024 .i32) (g1 : M1.IsWhole) (M2 : Memref sig .tc .vmem S128x672 .f32) (g2 : M2.IsWhole)
    (M3 : Memref sig .tc .vmem S128x1 .i32) (g3 : M3.IsWhole) (x : Vec F S128x1024 .i32) (e : Vec F S128x672 .f32)
    (W : Waits sig Unit) (Q : PUnit → sProp 𝕄) :
    iprop(owns (c : Thread nD τ) M1 fullShare x ∗ owns (c : Thread nD τ) M2 fullShare e ∗ (∃ d, owns (c : Thread nD τ) M3 fullShare d)
        ∗ (∃ d, ringM.view.loc (c : Thread nD τ) ↦{fullShare} d) ∗ (∃ d, accM.view.loc (c : Thread nD τ) ↦{fullShare} d) ∗ (∃ d, blkM.view.loc (c : Thread nD τ) ↦{fullShare} d)
        ∗ semVal ((c : Thread nD τ), SemLoc.dma 3) 0 ∗ semVal ((c : Thread nD τ), SemLoc.dma 4) 0
        ∗ (xM.view.loc (c : Thread nD τ) ↦{fullShare} X) ∗ owes (c : Thread nD τ) 0 W
        ∗ (owns (c : Thread nD τ) M1 fullShare x ∗ owns (c : Thread nD τ) M2 fullShare e ∗ owns (c : Thread nD τ) M3 fullShare (outVal c X x e)
          ∗ (∃ d, ringM.view.loc (c : Thread nD τ) ↦{fullShare} d) ∗ (∃ d, accM.view.loc (c : Thread nD τ) ↦{fullShare} d) ∗ (∃ d, blkM.view.loc (c : Thread nD τ) ↦{fullShare} d)
          ∗ semVal ((c : Thread nD τ), SemLoc.dma 3) 0 ∗ semVal ((c : Thread nD τ), SemLoc.dma 4) 0
          ∗ (xM.view.loc (c : Thread nD τ) ↦{fullShare} X) ∗ (∃ W : Waits sig Unit, owes (c : Thread nD τ) 0 W) -∗ Q ⟨⟩))
      ⊢ wp frame (wpE (defs₀ (F := F)) Variants.none c none) Set.univ
        (cc0__body (F := F) xM (Memref.isWhole_whole _) M1 g1 M2 g2 M3 g3 ringM (Memref.isWhole_whole _) accM (Memref.isWhole_whole _) blkM (Memref.isWhole_whole _) cc0_scratch3) Q := by
  rw [whole_eq, wp_bind]
  unfold owns
  iintro ⟨⟨%f1, %hf1, H1⟩, ⟨%f2, %hf2, H2⟩, ⟨%d3, %f3, -, H3⟩, ⟨%f4, H4⟩, ⟨%f5, H5⟩, ⟨%f6, H6⟩, Hs0, Hs1, HX, HO, Hk⟩
  obtain rfl := g1.eq_unread hf1; obtain rfl := g2.eq_unread hf2
  ihave HI := (idle_of c X f4) $$ [H4 Hs0 Hs1 HX]
  · isplitl [H4]; · iexact H4
    isplitl [Hs0]; · iexact Hs0
    isplitl [Hs1]; · iexact Hs1
    iexact HX
  icases HI with ⟨HI0, HI1, HR⟩
  iapply (wp_main c X M1 g1 M2 g2 M3 g3 x f5 f6)
  isplitl [HI0]; · iexact HI0
  isplitl [HI1]; · iexact HI1
  isplitl [H5]; · iexact H5
  isplitl [H6]; · iexact H6
  isplitl [H1]; · iexact H1
  isplitl [HO]; · iexists W; iexact HO
  iintro ⟨HI0, HI1, H5, H6, H1, HO⟩
  ihave HI := (of_idle c X f4) $$ [HI0 HI1 HR]
  · isplitl [HI0]; · iexact HI0
    isplitl [HI1]; · iexact HI1
    iexact HR
  icases HI with ⟨⟨%f4', H4⟩, Hs0, Hs1, HX⟩
  iapply (wp_closing c M2 g2 M3 g3 x e f3 (runAt c X x 97).1 (runAt c X x 97).2)
  isplitl [H5]; · iexact H5
  isplitl [H6]; · iexact H6
  isplitl [H2]; · iexact H2
  isplitl [H3]; · iexact H3
  iintro ⟨⟨%a', H5⟩, ⟨%b', H6⟩, H2, H3⟩
  iapply Hk
  isplitl [H1]
  · iexists _; isplitr; · ipureintro; exact g1.read_unread _
    iexact H1
  isplitl [H2]
  · iexists _; isplitr; · ipureintro; exact g2.read_unread _
    iexact H2
  isplitl [H3]
  · iexists _; isplitr; swap; · iexact H3
    ipureintro
    exact View.read_writes_full (Val := Elt F) M3.view f3 inb_S128x1_S128x1_0_0 _ []
  isplitl [H4]; · iexists _; iexact H4
  isplitl [H5]; · iexists _; iexact H5
  isplitl [H6]; · iexists _; iexact H6
  isplitl [Hs0]; · iexact Hs0
  isplitl [Hs1]; · iexact Hs1
  isplitl [HX]; · iexact HX
  iexact HO

end Cert.KernelIdeal.Hand

end
-- ==== Proof.Hand.Launch.lean ====
module

public import proofs.«01_k».proof.Proof.Hand.Body

public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Tactic

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program around the kernel -/

set_option maxHeartbeats 800000 in
/-- The host lines before the kernel, the kernel, the host lines after it. -/
theorem mainAround (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- No host operation after the kernel writes the array: it ends as launched. -/
theorem array_kept (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-! ## What the windows stage -/

/-- The counters' staging buffer holds its block. -/
theorem before_counters {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The last columns' staging buffer holds its block. -/
theorem before_columns {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the kernel holds besides its windows -/

/-- The kernel's own semaphores, one per slot of the ring. -/
abbrev ownSem : Fin 2 → SemLoc sig := fun j => (![SemLoc.dma 3, SemLoc.dma 4] : Fin 2 → SemLoc sig) j
theorem ownSemFacts : Pipeline.OwnSemFacts spec0 ownSem := by decide
theorem ownSems_eq (c : Dev nD) :
    (Pipeline.ownSems0 (Ix := Unit) (Name := ℕ) (U := Pipeline.UD sig nD τ) (Lvl := ℕ) (Val := Elt F) (τ := τ) ownSem c : sProp 𝕄)
      = iprop(semVal ((c : Thread nD τ), SemLoc.dma 3) 0 ∗ semVal ((c : Thread nD τ), SemLoc.dma 4) 0) := by
  rw [Pipeline.ownSems0_eq_of_list c ownSem [0, 1] (by decide) (by decide)]; rfl
/-- The array the kernel copies from itself. -/
def moved : Finset (Ref sig .tc) := {main_arg0}
theorem moved_sub : moved ⊆ Pipeline.restRefs sig spec0 := by decide
/-- The lines after the region touch none of the operands the body moves: each operation's buffers are unscoped
    TensorCore references, none of them in `moved` (`Pipeline.sub_tailRefsBut`). -/
theorem suffix_apart : ∀ ops ∈ ([hostOps1] : List (List (HloOp τ sig (Elt F)))), ∀ op ∈ ops,
    op.bufs ⊆ Pipeline.tailRefsBut sig Pipeline.Prefetch.none spec0 moved := by
  intro ops hops op hop
  simp only [List.mem_cons, List.mem_nil_iff, or_false] at hops
  rcases hops with rfl
  · refine Pipeline.sub_tailRefsBut Pipeline.Prefetch.none spec0 moved op ((List.forall_iff_forall_mem.mp hostOps1_sub) op hop) (fun j => j.elim0) ?_
    simp only [hostOps1, List.mem_cons, List.mem_nil_iff, or_false] at hop
    rcases hop with rfl
    all_goals intro b hb; simp only [moved, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
theorem moved_eq (c : Dev nD) :
    (bigSep moved (fun b => ((c : Thread nD τ).loc b) ↦{fullShare} V m c b) : sProp 𝕄) = iprop(xM.view.loc (c : Thread nD τ) ↦{fullShare} V m c main_arg0) := by
  rw [BI.bigSep_eq_bigSepL_of_eq [main_arg0] (by decide) (by decide)]; rfl
/-- The kernel's invariant: its scratch at some contents, the generator's register, its semaphores at zero, the array. -/
theorem held_eq (c : Dev nD) :
    (Pipeline.ΦD ownSem spec0 moved (V m) c : sProp 𝕄)
      = iprop(iprop((∃ d, ringM.view.loc (c : Thread nD τ) ↦{fullShare} d) ∗ (∃ d, accM.view.loc (c : Thread nD τ) ↦{fullShare} d)
          ∗ (∃ d, blkM.view.loc (c : Thread nD τ) ↦{fullShare} d)) ∗ (∃ r, prngReg c r)
        ∗ iprop(semVal ((c : Thread nD τ), SemLoc.dma 3) 0 ∗ semVal ((c : Thread nD τ), SemLoc.dma 4) 0)
        ∗ iprop(xM.view.loc (c : Thread nD τ) ↦{fullShare} V m c main_arg0)) := by
  rw [Pipeline.ΦD_eq, scopedRest0_eq, ownSems_eq, moved_eq]; try rfl

/-! ## The proof data -/

/-- The counters and the last columns stay in their buffers; the result's buffer ends at each row's first maximum. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outVal c (V m c main_arg0) (iblk m c 0 t) (iblk m c 1 t)
  Φ _ := Pipeline.ΦD ownSem spec0 moved (V m) c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) :
    (dats m 0 c).after 2 t = outVal c (V m c main_arg0) (iblk m c 0 t) (iblk m c 1 t) := by dsimp only [dats]
theorem before0 (c : Dev nD) (t : Fin cfg0.N) (d) : (dats m 0 c).before 0 t d = iblk m c 0 t :=
  before_counters m (dats m 0 c) (A_eq m c 0) (after0 m c) t d
theorem before1 (c : Dev nD) (t : Fin cfg0.N) (d) : (dats m 0 c).before 1 t d = iblk m c 1 t :=
  before_columns m (dats m 0 c) (A_eq m c 1) (after1 m c) t d

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body, called by the pipeline. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl, after0, after1, after2]
  rw [show (dats m 0 c).Φ t.castSucc = Pipeline.ΦD ownSem spec0 moved (V m) c from rfl, held_eq]
  unfold Dat.owesAt Pipeline.owesWithin
  rw [show (dats m 0 c).owed t.castSucc = 0 from rfl, show (dats m 0 c).owed t.succ = 0 from rfl]
  iintro ⟨⟨⟨HS0, HS1, HS2⟩, Hg, ⟨Hq0, Hq1⟩, Hh0⟩, ⟨%W, -, HW⟩, ⟨%d0, H0⟩, ⟨%d1, H1⟩, ⟨%d2, H2⟩⟩
  iapply (kernelRun c (V m c main_arg0) _ _ _ _ _ _ (iblk m c 0 t) (iblk m c 1 t) W)
  isplitl [H0]; · iexact H0
  isplitl [H1]; · iexact H1
  isplitl [H2]; · iexists _; iexact H2
  isplitl [HS0]; · iexact HS0
  isplitl [HS1]; · iexact HS1
  isplitl [HS2]; · iexact HS2
  isplitl [Hq0]; · iexact Hq0
  isplitl [Hq1]; · iexact Hq1
  isplitl [Hh0]; · iexact Hh0
  isplitl [HW]; · iexact HW
  iintro ⟨H0, H1, H2, HS0, HS1, HS2, Hq0, Hq1, Hh0, ⟨%W', HW'⟩⟩
  isplitl [HS0 HS1 HS2 Hg Hq0 Hq1 Hh0]
  · isplitl [HS0 HS1 HS2]
    · isplitl [HS0]; · iexact HS0
      isplitl [HS1]; · iexact HS1
      iexact HS2
    isplitl [Hg]
    · iexact Hg
    isplitl [Hq0 Hq1]
    · isplitl [Hq0]; · iexact Hq0
      iexact Hq1
    iexact Hh0
  isplitl [HW']
  · iexists W'; isplitr; · ipureintro; exact fun _ _ => Or.inl trivial
    iexact HW'
  isplitl [H0]; · iexact H0
  isplitl [H1]; · iexact H1
  iexact H2

/-- The body table's row is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The result after the host's reshape. -/
abbrev finalOf (c : Dev nD) (b : Ref sig .tc) : Buf (Elt F) ((c : Thread nD τ).loc b) := Pipeline.afterTail₀ cfgs (dats m) 0 (V0 m) [hostOps1] c b

set_option backward.isDefEq.respectTransparency.types false in
set_option maxHeartbeats 800000 in
/-- The launch: every run ends, the windows' arrays at what the body wrote, every other buffer as the host lines leave it,
    and every semaphore at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 ownSem defs₀ Variants.none ownSemFacts moved moved_sub m ρ main
    (hbody := fun c => (body_obligation m c).loose) (hshare := fun c => (dats m 0 c).share_full fun _ => rfl)
    (howed := fun _ _ => rfl) (V₀ := V0 m) (opss := [hostOps1]) (hsub := suffix_apart) (hfresh := sfx_fresh) (hkeep := sfx_keeps)
    (hmain := mainAround m Variants.none) (hA := A_eq m) (hin := fun _ => .rfl) (hout := fun _ => .rfl)

/-- Every run ends with the result at `finalOf`, the array unchanged and every semaphore at zero. -/
theorem run_result : θ_run defs (onTc (τ := τ) (main (F := F))) ⟨m, fun _ => 0, ρ⟩ (fun r => (∀ c : Dev nD,
      r.2.mem ((c.tc : Thread nD τ).loc main_v14) = finalOf m c main_v14
      ∧ r.2.mem ((c.tc : Thread nD τ).loc main_arg0) = m ((c.tc : Thread nD τ).loc main_arg0)) ∧ r.2.sem = fun _ => 0) :=
  (θ_run defs _ _).mono (fun _ h => ⟨fun c => ⟨(h.1 c).2 main_v14 (Pipeline.mem_restRefs_of main_v14 (by decide) (by decide)),
    ((h.1 c).2 main_arg0 (Pipeline.mem_restRefs_of main_arg0 (by decide) (by decide))).trans (array_kept m (dats m) c)⟩, h.2⟩) (run_main m ρ)

/-- The frame: the array ends unchanged and every semaphore at zero. -/
theorem frame_end : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => (h.1 c).2, h.2⟩) (run_result m ρ)

end Cert.KernelIdeal.Hand

end
-- ==== Proof.Hand.Frames.lean ====
module

public import proofs.«01_k».proof.Proof.Hand.Launch
public import proofs.«01_k».proof.Proof.Gen.Kernel

@[expose] public section

/-! The kernel as printed and the kernel read at the ideal instance are one text printed twice, both generic in
the float values: what was shown of the run of the one is carried to the other. -/

set_option maxRecDepth 16384

noncomputable section

namespace Cert.Kernel.Hand

open Cert.Kernel Cert.Kernel.Gen
open Idealize.ShloMosaic Idealize.ShloMosaic.TcCoe Idealize.SL.Sem

variable {F : FTy → Type} [FloatOps F]

/-- The two printings' kernel bodies, label by label, are the same program. -/
theorem rows_eq : Cert.Kernel.defs₀ (F := F) = Cert.KernelIdeal.defs₀ (F := F) := by
  unfold Cert.Kernel.defs₀ Cert.KernelIdeal.defs₀
  refine congrArg Defs.onTc ?_
  funext ℓ a
  match ℓ, a with
  | 0, (t, s) => rfl

/-- So are their body tables. -/
theorem table_eq : Cert.Kernel.defs (F := F) = Cert.KernelIdeal.defs (F := F) :=
  congrArg (Pipeline.defs Cert.KernelIdeal.pcfgs) rows_eq

/-- The frame of the kernel as printed: from any memory it runs, its argument ends unchanged and every semaphore
reads zero. -/
theorem frame_end (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (congrArg (fun D => θ_run D (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0))
      table_eq).mpr
    (Cert.KernelIdeal.Hand.frame_end m ρ)

end Cert.Kernel.Hand

end
-- ==== Proof.Hand.RefRun.lean ====
module

public import proofs.«01_k».proof.Proof.Gen.ReferenceIdeal
public import Idealize.ShloMosaic.Lib.StableHlo.RunHlo
public import Idealize.ShloMosaic.Lib.StableHlo.RunRead
public import Idealize.ShloMosaic.Lib.Quiescent

@[expose] public section

/-! # The reference runs

The reference is one straight line of host operations: the key and the counters, the mixing of the counters
(five groups of four rounds, each group followed by the addition of key words), the noise and the sum, and the
index of the first greatest score. -/

set_option maxRecDepth 16384

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-- A typed reference to an array of words. -/
abbrev RW : Type := TRef sig ⟨S128x100000, .i32⟩
/-- A typed reference to one word. -/
abbrev RS : Type := TRef sig ⟨S_, .i32⟩

/-- One word repeated over the array. -/
abbrev spread (x : IVec S_ 32) : IVec S128x100000 32 := broadcastInDim S128x100000 ![] bcast_S_S128x100000 x

/-- One round of the mixing on the words `x0`, `x1`: the sum `s`, and `y`, which is `x1` rotated by `r` (`r'` the
width less `r`) and joined to the sum by exclusive or. -/
def roundOps (x0 x1 : RW) (r r' : BitVec 32) (s : RW) (c : RS) (b l : RW) (c' : RS) (b' h o y : RW) : List (HloOp τ sig (Elt F)) :=
  [TRef.binary x0 x1 s addi, TRef.nullary c (constantI S_ 32 r), TRef.unary c b spread, TRef.binary x1 b l Host.shli,
    TRef.nullary c' (constantI S_ 32 r'), TRef.unary c' b' spread, TRef.binary x1 b' h Host.shrui, TRef.binary l h o ori,
    TRef.binary s o y xori]

/-- Key words `ka` and `kb` added to the words `x0` and `x1`, the second sum raised by the count `n`. -/
def injectOps (x0 x1 : RW) (ka kb : RS) (n : BitVec 32) (b s b' s' : RW) (c : RS) (d t : RW) : List (HloOp τ sig (Elt F)) :=
  [TRef.unary ka b spread, TRef.binary x0 b s addi, TRef.unary kb b' spread, TRef.binary x1 b' s' addi,
    TRef.nullary c (constantI S_ 32 n), TRef.unary c d spread, TRef.binary s' d t addi]

/-- The key's third word, and the first two added to the counters. -/
def headOps (arg0 arg1 : RS) (arg2 arg3 : RW) (φ : fn_threefry2x32.Bufs) : List (HloOp τ sig (Elt F)) :=
  [TRef.binary arg0 arg1 φ.v0 xori, TRef.nullary φ.c (constantI S_ 32 466688986#32), TRef.binary φ.v0 φ.c φ.v1 xori,
    TRef.unary arg0 φ.v2 spread, TRef.binary arg2 φ.v2 φ.v3 addi, TRef.unary arg1 φ.v4 spread, TRef.binary arg3 φ.v4 φ.v5 addi]

/-- The twenty rounds and the five additions of key words. -/
def mixOps (arg0 arg1 : RS) (φ : fn_threefry2x32.Bufs) : List (HloOp τ sig (Elt F)) :=
    roundOps φ.v3 φ.v5 13#32 19#32 φ.v6 φ.c_0 φ.v7 φ.v8 φ.c_1 φ.v9 φ.v10 φ.v11 φ.v12 ++
    (roundOps φ.v6 φ.v12 15#32 17#32 φ.v13 φ.c_2 φ.v14 φ.v15 φ.c_3 φ.v16 φ.v17 φ.v18 φ.v19 ++
    (roundOps φ.v13 φ.v19 26#32 6#32 φ.v20 φ.c_4 φ.v21 φ.v22 φ.c_5 φ.v23 φ.v24 φ.v25 φ.v26 ++
    (roundOps φ.v20 φ.v26 6#32 26#32 φ.v27 φ.c_6 φ.v28 φ.v29 φ.c_7 φ.v30 φ.v31 φ.v32 φ.v33 ++
    (injectOps φ.v27 φ.v33 arg1 φ.v1 1#32 φ.v34 φ.v35 φ.v36 φ.v37 φ.c_8 φ.v38 φ.v39 ++
    (roundOps φ.v35 φ.v39 17#32 15#32 φ.v40 φ.c_9 φ.v41 φ.v42 φ.c_10 φ.v43 φ.v44 φ.v45 φ.v46 ++
    (roundOps φ.v40 φ.v46 29#32 3#32 φ.v47 φ.c_11 φ.v48 φ.v49 φ.c_12 φ.v50 φ.v51 φ.v52 φ.v53 ++
    (roundOps φ.v47 φ.v53 16#32 16#32 φ.v54 φ.c_13 φ.v55 φ.v56 φ.c_14 φ.v57 φ.v58 φ.v59 φ.v60 ++
    (roundOps φ.v54 φ.v60 24#32 8#32 φ.v61 φ.c_15 φ.v62 φ.v63 φ.c_16 φ.v64 φ.v65 φ.v66 φ.v67 ++
    (injectOps φ.v61 φ.v67 φ.v1 arg0 2#32 φ.v68 φ.v69 φ.v70 φ.v71 φ.c_17 φ.v72 φ.v73 ++
    (roundOps φ.v69 φ.v73 13#32 19#32 φ.v74 φ.c_18 φ.v75 φ.v76 φ.c_19 φ.v77 φ.v78 φ.v79 φ.v80 ++
    (roundOps φ.v74 φ.v80 15#32 17#32 φ.v81 φ.c_20 φ.v82 φ.v83 φ.c_21 φ.v84 φ.v85 φ.v86 φ.v87 ++
    (roundOps φ.v81 φ.v87 26#32 6#32 φ.v88 φ.c_22 φ.v89 φ.v90 φ.c_23 φ.v91 φ.v92 φ.v93 φ.v94 ++
    (roundOps φ.v88 φ.v94 6#32 26#32 φ.v95 φ.c_24 φ.v96 φ.v97 φ.c_25 φ.v98 φ.v99 φ.v100 φ.v101 ++
    (injectOps φ.v95 φ.v101 arg0 arg1 3#32 φ.v102 φ.v103 φ.v104 φ.v105 φ.c_26 φ.v106 φ.v107 ++
    (roundOps φ.v103 φ.v107 17#32 15#32 φ.v108 φ.c_27 φ.v109 φ.v110 φ.c_28 φ.v111 φ.v112 φ.v113 φ.v114 ++
    (roundOps φ.v108 φ.v114 29#32 3#32 φ.v115 φ.c_29 φ.v116 φ.v117 φ.c_30 φ.v118 φ.v119 φ.v120 φ.v121 ++
    (roundOps φ.v115 φ.v121 16#32 16#32 φ.v122 φ.c_31 φ.v123 φ.v124 φ.c_32 φ.v125 φ.v126 φ.v127 φ.v128 ++
    (roundOps φ.v122 φ.v128 24#32 8#32 φ.v129 φ.c_33 φ.v130 φ.v131 φ.c_34 φ.v132 φ.v133 φ.v134 φ.v135 ++
    (injectOps φ.v129 φ.v135 arg1 φ.v1 4#32 φ.v136 φ.v137 φ.v138 φ.v139 φ.c_35 φ.v140 φ.v141 ++
    (roundOps φ.v137 φ.v141 13#32 19#32 φ.v142 φ.c_36 φ.v143 φ.v144 φ.c_37 φ.v145 φ.v146 φ.v147 φ.v148 ++
    (roundOps φ.v142 φ.v148 15#32 17#32 φ.v149 φ.c_38 φ.v150 φ.v151 φ.c_39 φ.v152 φ.v153 φ.v154 φ.v155 ++
    (roundOps φ.v149 φ.v155 26#32 6#32 φ.v156 φ.c_40 φ.v157 φ.v158 φ.c_41 φ.v159 φ.v160 φ.v161 φ.v162 ++
    (roundOps φ.v156 φ.v162 6#32 26#32 φ.v163 φ.c_42 φ.v164 φ.v165 φ.c_43 φ.v166 φ.v167 φ.v168 φ.v169 ++
    (injectOps φ.v163 φ.v169 φ.v1 arg0 5#32 φ.v170 φ.v171 φ.v172 φ.v173 φ.c_44 φ.v174 φ.v175))))))))))))))))))))))))

/-- The key and the counters. -/
def preOps : List (HloOp τ sig (Elt F)) :=
  [ nullary main_c (constantI S_ 32 42#32),
    nullary main_c_0 (constantI S_ 32 32#32),
    binary main_c main_c_0 main_v0 (Host.shrui : (⟨S_, .i32⟩ : BufTy).Contents (Elt F) → (⟨S_, .i32⟩ : BufTy).Contents (Elt F) → (⟨S_, .i32⟩ : BufTy).Contents (Elt F)),
    unary main_v0 main_v1 (id : (⟨S_, .i32⟩ : BufTy).Contents (Elt F) → (⟨S_, .i32⟩ : BufTy).Contents (Elt F)),
    unary main_v1 main_v2 (broadcastInDim S1 ![] bcast_S_S1 : (⟨S_, .i32⟩ : BufTy).Contents (Elt F) → (⟨S1, .i32⟩ : BufTy).Contents (Elt F)),
    nullary main_c_1 (constantI S_ 32 4294967295#32),
    binary main_c main_c_1 main_v3 (andi : (⟨S_, .i32⟩ : BufTy).Contents (Elt F) → (⟨S_, .i32⟩ : BufTy).Contents (Elt F) → (⟨S_, .i32⟩ : BufTy).Contents (Elt F)),
    unary main_v3 main_v4 (id : (⟨S_, .i32⟩ : BufTy).Contents (Elt F) → (⟨S_, .i32⟩ : BufTy).Contents (Elt F)),
    unary main_v4 main_v5 (broadcastInDim S1 ![] bcast_S_S1 : (⟨S_, .i32⟩ : BufTy).Contents (Elt F) → (⟨S1, .i32⟩ : BufTy).Contents (Elt F)),
    binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    unary main_v6 main_v7 ((extractStridedSlice S1 ![0] · slices_S2_S1_0) : (⟨S2, .i32⟩ : BufTy).Contents (Elt F) → (⟨S1, .i32⟩ : BufTy).Contents (Elt F)),
    reshape main_v7 main_v8 (rfl : (.i32 : EltTy) = .i32) shapeCasts_S1_S_,
    unary main_v6 main_v9 ((extractStridedSlice S1 ![1] · slices_S2_S1_1) : (⟨S2, .i32⟩ : BufTy).Contents (Elt F) → (⟨S1, .i32⟩ : BufTy).Contents (Elt F)),
    reshape main_v9 main_v10 (rfl : (.i32 : EltTy) = .i32) shapeCasts_S1_S_,
    nullary main_v11 (iotaInDim S128x100000 64 0),
    nullary main_v12 (iotaInDim S128x100000 64 1),
    nullary main_c_2 (constantI S_ 64 100000#64),
    unary main_c_2 main_v13 (broadcastInDim S128x100000 ![] bcast_S_S128x100000 : (⟨S_, .i64⟩ : BufTy).Contents (Elt F) → (⟨S128x100000, .i64⟩ : BufTy).Contents (Elt F)),
    binary main_v13 main_v11 main_v14 (muli : (⟨S128x100000, .i64⟩ : BufTy).Contents (Elt F) → (⟨S128x100000, .i64⟩ : BufTy).Contents (Elt F) → (⟨S128x100000, .i64⟩ : BufTy).Contents (Elt F)),
    nullary main_c_3 (constantI S_ 64 1#64),
    unary main_c_3 main_v15 (broadcastInDim S128x100000 ![] bcast_S_S128x100000 : (⟨S_, .i64⟩ : BufTy).Contents (Elt F) → (⟨S128x100000, .i64⟩ : BufTy).Contents (Elt F)),
    binary main_v15 main_v12 main_v16 (muli : (⟨S128x100000, .i64⟩ : BufTy).Contents (Elt F) → (⟨S128x100000, .i64⟩ : BufTy).Contents (Elt F) → (⟨S128x100000, .i64⟩ : BufTy).Contents (Elt F)),
    binary main_v14 main_v16 main_v17 (addi : (⟨S128x100000, .i64⟩ : BufTy).Contents (Elt F) → (⟨S128x100000, .i64⟩ : BufTy).Contents (Elt F) → (⟨S128x100000, .i64⟩ : BufTy).Contents (Elt F)),
    nullary main_c_4 (constantI S_ 64 32#64),
    unary main_c_4 main_v18 (broadcastInDim S128x100000 ![] bcast_S_S128x100000 : (⟨S_, .i64⟩ : BufTy).Contents (Elt F) → (⟨S128x100000, .i64⟩ : BufTy).Contents (Elt F)),
    binary main_v17 main_v18 main_v19 (Host.shrui : (⟨S128x100000, .i64⟩ : BufTy).Contents (Elt F) → (⟨S128x100000, .i64⟩ : BufTy).Contents (Elt F) → (⟨S128x100000, .i64⟩ : BufTy).Contents (Elt F)),
    unary main_v17 main_v20 ((trunci 32 · natLt_32_64) : (⟨S128x100000, .i64⟩ : BufTy).Contents (Elt F) → (⟨S128x100000, .i32⟩ : BufTy).Contents (Elt F)),
    unary main_v19 main_v21 ((trunci 32 · natLt_32_64) : (⟨S128x100000, .i64⟩ : BufTy).Contents (Elt F) → (⟨S128x100000, .i32⟩ : BufTy).Contents (Elt F))]

/-- The noise of the words and its sum with the logits. -/
def noiseOps : List (HloOp τ sig (Elt F)) :=
  [ binary main_v22_0 main_v22_1 main_v23 (xori : (⟨S128x100000, .i32⟩ : BufTy).Contents (Elt F) → (⟨S128x100000, .i32⟩ : BufTy).Contents (Elt F) → (⟨S128x100000, .i32⟩ : BufTy).Contents (Elt F)),
    nullary main_c_5 (constantI S_ 32 9#32),
    unary main_c_5 main_v24 (broadcastInDim S128x100000 ![] bcast_S_S128x100000 : (⟨S_, .i32⟩ : BufTy).Contents (Elt F) → (⟨S128x100000, .i32⟩ : BufTy).Contents (Elt F)),
    binary main_v23 main_v24 main_v25 (Host.shrui : (⟨S128x100000, .i32⟩ : BufTy).Contents (Elt F) → (⟨S128x100000, .i32⟩ : BufTy).Contents (Elt F) → (⟨S128x100000, .i32⟩ : BufTy).Contents (Elt F)),
    nullary main_c_6 (constantI S_ 32 1065353216#32),
    unary main_c_6 main_v26 (broadcastInDim S128x100000 ![] bcast_S_S128x100000 : (⟨S_, .i32⟩ : BufTy).Contents (Elt F) → (⟨S128x100000, .i32⟩ : BufTy).Contents (Elt F)),
    binary main_v25 main_v26 main_v27 (ori : (⟨S128x100000, .i32⟩ : BufTy).Contents (Elt F) → (⟨S128x100000, .i32⟩ : BufTy).Contents (Elt F) → (⟨S128x100000, .i32⟩ : BufTy).Contents (Elt F)),
    unary main_v27 main_v28 (bitcastToFloat .f32 : (⟨S128x100000, .i32⟩ : BufTy).Contents (Elt F) → (⟨S128x100000, .f32⟩ : BufTy).Contents (Elt F)),
    nullary main_cst (constant S_ .f32 0x3F800000#32),
    unary main_cst main_v29 (broadcastInDim S128x100000 ![] bcast_S_S128x100000 : (⟨S_, .f32⟩ : BufTy).Contents (Elt F) → (⟨S128x100000, .f32⟩ : BufTy).Contents (Elt F)),
    binary main_v28 main_v29 main_v30 (subf : (⟨S128x100000, .f32⟩ : BufTy).Contents (Elt F) → (⟨S128x100000, .f32⟩ : BufTy).Contents (Elt F) → (⟨S128x100000, .f32⟩ : BufTy).Contents (Elt F)),
    nullary main_cst_7 (constant S_ .f32 0x00800000#32),
    unary main_cst_7 main_v31 (broadcastInDim S128x100000 ![] bcast_S_S128x100000 : (⟨S_, .f32⟩ : BufTy).Contents (Elt F) → (⟨S128x100000, .f32⟩ : BufTy).Contents (Elt F)),
    binary main_v31 main_v30 main_v32 (maximumf : (⟨S128x100000, .f32⟩ : BufTy).Contents (Elt F) → (⟨S128x100000, .f32⟩ : BufTy).Contents (Elt F) → (⟨S128x100000, .f32⟩ : BufTy).Contents (Elt F)),
    unary main_v32 main_v33 (Host.log : (⟨S128x100000, .f32⟩ : BufTy).Contents (Elt F) → (⟨S128x100000, .f32⟩ : BufTy).Contents (Elt F)),
    unary main_v33 main_v34 (Host.negf : (⟨S128x100000, .f32⟩ : BufTy).Contents (Elt F) → (⟨S128x100000, .f32⟩ : BufTy).Contents (Elt F)),
    unary main_v34 main_v35 (Host.log : (⟨S128x100000, .f32⟩ : BufTy).Contents (Elt F) → (⟨S128x100000, .f32⟩ : BufTy).Contents (Elt F)),
    unary main_v35 main_v36 (Host.negf : (⟨S128x100000, .f32⟩ : BufTy).Contents (Elt F) → (⟨S128x100000, .f32⟩ : BufTy).Contents (Elt F)),
    binary main_v36 main_arg0 main_v37 (addf : (⟨S128x100000, .f32⟩ : BufTy).Contents (Elt F) → (⟨S128x100000, .f32⟩ : BufTy).Contents (Elt F) → (⟨S128x100000, .f32⟩ : BufTy).Contents (Elt F))]

/-- The first greatest element of each row of `x` and its column. -/
def argmaxOps (x : TRef sig ⟨S128x100000, .f32⟩) (φ : fn_argmax.Bufs) : List (HloOp τ sig (Elt F)) :=
  [TRef.nullary φ.v0 (iotaInDim S128x100000 32 1), TRef.nullary φ.cst (constant S_ .f32 0xFF800000#32),
    TRef.nullary φ.c (constantI S_ 32 0#32),
    TRef.quaternary x φ.v0 φ.cst φ.c φ.v1_0
      (fun x y u v j => (Host.argReduce reducer_argmax_f32_i32 x y u v reducesTo_S128x100000_S128_d1 h_S_ j).1),
    TRef.quaternary x φ.v0 φ.cst φ.c φ.v1_1
      (fun x y u v j => (Host.argReduce reducer_argmax_f32_i32 x y u v reducesTo_S128x100000_S128_d1 h_S_ j).2)]

/-- The reference's operations, in order. -/
def ops : List (HloOp τ sig (Elt F)) :=
  preOps ++ (headOps (.of main_v8) (.of main_v10) (.of main_v21) (.of main_v20) main_call0 ++
    (mixOps (.of main_v8) (.of main_v10) main_call0 ++ (noiseOps ++ argmaxOps (.of main_v37) main_call1)))

/-- The reference's program is its operations one after another. -/
theorem main_seq (d : Dev nD) : main (F := F) d = seq ops := rfl

/-- A round's buffers are the TensorCore's; -/
theorem round_tc (x0 x1 : RW) (r r' : BitVec 32) (s : RW) (c : RS) (b l : RW) (c' : RS) (b' h o y : RW) :
    (roundOps (F := F) x0 x1 r r' s c b l c' b' h o y).Forall fun op => op.bufs ⊆ tcRefs τ sig :=
  ⟨binary_bufs_sub .., nullary_bufs_sub .., unary_bufs_sub .., binary_bufs_sub .., nullary_bufs_sub .., unary_bufs_sub ..,
    binary_bufs_sub .., binary_bufs_sub .., binary_bufs_sub ..⟩

/-- so are those of an addition of key words. -/
theorem inject_tc (x0 x1 : RW) (ka kb : RS) (n : BitVec 32) (b s b' s' : RW) (c : RS) (d t : RW) :
    (injectOps (F := F) x0 x1 ka kb n b s b' s' c d t).Forall fun op => op.bufs ⊆ tcRefs τ sig :=
  ⟨unary_bufs_sub .., binary_bufs_sub .., unary_bufs_sub .., binary_bufs_sub .., nullary_bufs_sub .., unary_bufs_sub ..,
    binary_bufs_sub ..⟩

/-- Every operation's buffers are the TensorCore's. -/
theorem ops_tc : (ops (F := F)).Forall fun op => op.bufs ⊆ tcRefs τ sig := by
  simp only [ops, mixOps, List.forall_append, round_tc, inject_tc, true_and, and_true]
  simp only [preOps, headOps, noiseOps, argmaxOps, List.Forall, nullary_bufs_sub, unary_bufs_sub, binary_bufs_sub,
    quaternary_bufs_sub, reshape_bufs_sub, and_self]

/-- No operation allocates. -/
theorem ops_fresh : ∀ op ∈ ops (F := F), op.fresh = ∅ := by
  intro _ h; repeat (cases h with | head => rfl | tail _ h => ?_)
  exact nomatch h

/-- No operation writes the argument. -/
theorem ops_arg0 (V : Valuation τ sig (Elt F)) :
    after ops V (Proc.devRef .tc main_arg0) = V (Proc.devRef .tc main_arg0) := by
  after_reads_simp

/-- The reference's run from any memory: every buffer ends at what its operations leave, and every semaphore reads zero. -/
theorem run_ops (m : (ℓ : Loc nD τ sig) → Buf (Elt F) ℓ) (ρ : Dev nD → PrngReg) :
    θ_run defs (onTc (τ := τ) (main (F := F))) ⟨m, fun _ => 0, ρ⟩ (fun r => ∀ (d : Dev nD) (b : Ref sig .tc),
      r.2.mem ((d.tc : Thread nD τ).loc b) = after ops (launchContents m d) (Proc.devRef .tc b)) :=
  run_hlo defs main main_seq (by rfl) (by rfl) ops_tc ops_fresh m ρ

/-- The frame of the reference: from any memory it runs, its argument ends unchanged and every semaphore reads zero. -/
theorem frame_end (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_mono (run_ops m ρ) fun r hr => ⟨fun c => (hr c main_arg0).trans (ops_arg0 _), sem_eq_zero_of_no_sems (by rfl) r.2⟩

end Cert.ReferenceIdeal.Hand

end
-- ==== Proof.Hand.Mix.lean ====
module

public import Mathlib.Data.Nat.Notation

@[expose] public section

/-! # The mixing of a counter into a random word

Both programs mix a counter by the same twenty rounds on a pair of words, with key words added after every fourth
round. Here the rounds are functions of words, with the key's words written in. -/

namespace Cert.Mix

/-- A word rotated left by `r`, `r'` being the rest of the thirty-two. -/
def rot (r r' x : BitVec 32) : BitVec 32 := (x <<< r) ||| (x >>> r')
/-- One round on a pair of words: the sum, and the second word rotated by `r` joined to the sum by exclusive or. -/
def turn (r r' : BitVec 32) (p : BitVec 32 × BitVec 32) : BitVec 32 × BitVec 32 :=
  (p.1 + p.2, rot r r' p.2 ^^^ (p.1 + p.2))
/-- Key words added to a pair. -/
def plus (a b : BitVec 32) (p : BitVec 32 × BitVec 32) : BitVec 32 × BitVec 32 := (p.1 + a, p.2 + b)
/-- Four rounds by the first four rotations. -/
def oddTurns (p : BitVec 32 × BitVec 32) : BitVec 32 × BitVec 32 :=
  turn 6#32 26#32 (turn 26#32 6#32 (turn 15#32 17#32 (turn 13#32 19#32 p)))
/-- Four rounds by the other four rotations. -/
def evenTurns (p : BitVec 32 × BitVec 32) : BitVec 32 × BitVec 32 :=
  turn 24#32 8#32 (turn 16#32 16#32 (turn 29#32 3#32 (turn 17#32 15#32 p)))
/-- A counter's pair after the first round from `(0, t)`. -/
def pair0 (t : BitVec 32) : BitVec 32 × BitVec 32 := (t, rot 13#32 19#32 t ^^^ t)
/-- The twenty rounds and the key additions after every fourth, the first round done. -/
def mix (p : BitVec 32 × BitVec 32) : BitVec 32 × BitVec 32 :=
  plus 466689008#32 5#32 (oddTurns (plus 42#32 466689012#32 (evenTurns (plus 0#32 45#32 (oddTurns (plus 466689008#32 2#32 (evenTurns
    (plus 42#32 466689009#32 (turn 6#32 26#32 (turn 26#32 6#32 (turn 15#32 17#32 p)))))))))))
/-- The random word of a counter. -/
def word (t : BitVec 32) : BitVec 32 := (mix (pair0 t)).1 ^^^ (mix (pair0 t)).2

/-- The first round from a zero first word. -/
theorem turn_zero (t : BitVec 32) : turn 13#32 19#32 (0#32, t) = pair0 t := by
  simp only [turn, pair0, BitVec.zero_add]

end Cert.Mix

end
-- ==== Proof.Hand.Words.lean ====
module

public import proofs.«01_k».proof.Proof.Hand.Body
public import proofs.«01_k».proof.Proof.Hand.Mix
public import Idealize.ShloMosaic.Lib.Pointwise

@[expose] public section

/-! # The words of the kernel, element by element -/

set_option maxRecDepth 16384

noncomputable section

namespace Cert.KernelIdeal.Hand

open Cert.KernelIdeal Cert.KernelIdeal.Gen Cert.Mix
open Idealize.ShloMosaic Idealize.ShloMosaic.TcCoe

variable {F : FTy → Type} [FloatOps F]

/-! ## The kernel's steps: a pair with its sum already formed -/

/-- A pair with its first word replaced by the sum. -/
def half (p : BitVec 32 × BitVec 32) : BitVec 32 × BitVec 32 := (p.1 + p.2, p.2)
/-- The second word of the next round. -/
def next (r r' : BitVec 32) (h : BitVec 32 × BitVec 32) : BitVec 32 := rot r r' h.2 ^^^ h.1
/-- One round on a pair in summed form. -/
def spin (r r' : BitVec 32) (h : BitVec 32 × BitVec 32) : BitVec 32 × BitVec 32 := (h.1 + next r r' h, next r r' h)
/-- One round and a key addition on a pair in summed form. -/
def keyed (r r' a b : BitVec 32) (h : BitVec 32 × BitVec 32) : BitVec 32 × BitVec 32 :=
  (h.1 + a + (next r r' h + b), next r r' h + b)
/-- The last round, its key addition and the two words joined. -/
def out (r r' a b : BitVec 32) (h : BitVec 32 × BitVec 32) : BitVec 32 := (h.1 + a) ^^^ (next r r' h + b)

theorem half_turn (r r' : BitVec 32) (p) : half (turn r r' p) = spin r r' (half p) := rfl
theorem half_plus (r r' a b : BitVec 32) (p) : half (plus a b (turn r r' p)) = keyed r r' a b (half p) := rfl
theorem out_half (r r' a b : BitVec 32) (p) :
    (plus a b (turn r r' p)).1 ^^^ (plus a b (turn r r' p)).2 = out r r' a b (half p) := rfl

/-- The random word in the kernel's own order. -/
theorem word_eq (t : BitVec 32) : word t =
    out 6#32 26#32 466689008#32 5#32 (spin 26#32 6#32 (spin 15#32 17#32 (spin 13#32 19#32 (
    keyed 24#32 8#32 42#32 466689012#32 (spin 16#32 16#32 (spin 29#32 3#32 (spin 17#32 15#32 (
    keyed 6#32 26#32 0#32 45#32 (spin 26#32 6#32 (spin 15#32 17#32 (spin 13#32 19#32 (
    keyed 24#32 8#32 466689008#32 2#32 (spin 16#32 16#32 (spin 29#32 3#32 (spin 17#32 15#32 (
    keyed 6#32 26#32 42#32 466689009#32 (spin 26#32 6#32 (spin 15#32 17#32 (half (pair0 t)))))))))))))))))))) := by
  simp only [word, mix, oddTurns, evenTurns, out_half, half_turn, half_plus]

/-! ## The same steps on whole blocks -/

section Blocks
variable {S : Shape}

/-- The words of a pair of blocks at an element. -/
def pairAt (h : IVec S 32 × IVec S 32) (i : S.Idx) : BitVec 32 × BitVec 32 := (h.1 i, h.2 i)
/-- The second block of the next round. -/
def vnext (r r' : BitVec 32) (h : IVec S 32 × IVec S 32) : IVec S 32 :=
  xori (ori (shli h.2 (broadcast S r)) (shrui h.2 (broadcast S r'))) h.1
/-- One round on blocks in summed form. -/
def vspin (r r' : BitVec 32) (h : IVec S 32 × IVec S 32) : IVec S 32 × IVec S 32 := (addi h.1 (vnext r r' h), vnext r r' h)
/-- One round and a key addition on blocks in summed form. -/
def vkeyed (r r' a b : BitVec 32) (h : IVec S 32 × IVec S 32) : IVec S 32 × IVec S 32 :=
  (addi (addi h.1 (broadcast S a)) (addi (vnext r r' h) (broadcast S b)), addi (vnext r r' h) (broadcast S b))
/-- The last round on blocks, its key addition and the two words joined. -/
def vout (r r' a b : BitVec 32) (h : IVec S 32 × IVec S 32) : IVec S 32 :=
  xori (addi h.1 (broadcast S a)) (addi (vnext r r' h) (broadcast S b))

theorem vnext_at (r r' : BitVec 32) (h : IVec S 32 × IVec S 32) (i : S.Idx) (hr : r.toNat < 32) (hr' : r'.toNat < 32) :
    vnext r r' h i = next r r' (pairAt h i) := by
  show ((IntOp.shli .vector (h.2 i) r) ||| (IntOp.shrui .vector (h.2 i) r')) ^^^ h.1 i = _
  rw [show IntOp.shli .vector (h.2 i) r = h.2 i <<< r from if_pos hr, show IntOp.shrui .vector (h.2 i) r' = h.2 i >>> r' from if_pos hr']
  rfl
theorem vspin_at (r r' : BitVec 32) (h : IVec S 32 × IVec S 32) (i : S.Idx) (hr : r.toNat < 32) (hr' : r'.toNat < 32) :
    pairAt (vspin r r' h) i = spin r r' (pairAt h i) := by
  show (h.1 i + vnext r r' h i, vnext r r' h i) = _
  rw [vnext_at r r' h i hr hr']; rfl
theorem vkeyed_at (r r' a b : BitVec 32) (h : IVec S 32 × IVec S 32) (i : S.Idx) (hr : r.toNat < 32) (hr' : r'.toNat < 32) :
    pairAt (vkeyed r r' a b h) i = keyed r r' a b (pairAt h i) := by
  show (h.1 i + a + (vnext r r' h i + b), vnext r r' h i + b) = _
  rw [vnext_at r r' h i hr hr']; rfl
theorem vout_at (r r' a b : BitVec 32) (h : IVec S 32 × IVec S 32) (i : S.Idx) (hr : r.toNat < 32) (hr' : r'.toNat < 32) :
    vout r r' a b h i = out r r' a b (pairAt h i) := by
  show (h.1 i + a) ^^^ (vnext r r' h i + b) = _
  rw [vnext_at r r' h i hr hr']; rfl

end Blocks

/-! ## The words of a trip -/

variable (v19 : IVec S128x1024 32) (k : Fin k0_t1_loop.trips) (i : S128x1024.Idx)

theorem trip1 (t : BitVec 32) (ht : v19 i + Scalar.muli (Scf.iv 0#32 1#32 k) 1024#32 = t) :
    (k0_pay10 v19 0#32 1#32 k i, k0_pay9 v19 0#32 1#32 k i) = spin 26#32 6#32 (spin 15#32 17#32 (half (pair0 t))) := by
  subst ht; rfl
theorem trip2 (v242 v243 : BitVec 32) (a b : IVec S128x1024 32) :
    (k0_pay20 v242 v243 a b i, k0_pay19 v242 v243 a b i) =
    keyed 24#32 8#32 466689008#32 v243 (spin 16#32 16#32 (spin 29#32 3#32 (spin 17#32 15#32 (keyed 6#32 26#32 42#32 v242 (b i, a i))))) := rfl
theorem trip3 (v242 v243 : BitVec 32) (a b : IVec S128x1024 32) :
    (k0_pay28 (k0_pay19 v242 v243 a b) (k0_pay20 v242 v243 a b) (k0_pay21 v242 v243 a b) k0_pay22 i,
      k0_pay27 (k0_pay19 v242 v243 a b) (k0_pay20 v242 v243 a b) (k0_pay21 v242 v243 a b) k0_pay22 i) =
    spin 26#32 6#32 (spin 15#32 17#32 (spin 13#32 19#32 (k0_pay20 v242 v243 a b i, k0_pay19 v242 v243 a b i))) := rfl
theorem trip3' (v244 : BitVec 32) (c d e f : IVec S128x1024 32) :
    (k0_pay34 v244 c d e f i, k0_pay33 v244 c d e f i) =
    spin 29#32 3#32 (spin 17#32 15#32 (keyed 6#32 26#32 0#32 v244 (k0_pay28 c d e f i, k0_pay27 c d e f i))) := rfl
theorem trip4 (v244 v245 v246 : BitVec 32) (c d e f : IVec S128x1024 32) :
    k0_pay37 v245 v246 (k0_pay34 v244 c d e f) (k0_pay35 v244 c d e f) (k0_pay36 v244 c d e f) i =
    out 6#32 26#32 466689008#32 v246 (spin 26#32 6#32 (spin 15#32 17#32 (spin 13#32 19#32 (
    keyed 24#32 8#32 42#32 v245 (spin 16#32 16#32 (k0_pay34 v244 c d e f i, k0_pay33 v244 c d e f i)))))) := by
  show vout 6#32 26#32 466689008#32 v246 (vspin 26#32 6#32 (vspin 15#32 17#32 (vspin 13#32 19#32 (
    vkeyed 24#32 8#32 42#32 v245 (vspin 16#32 16#32 (k0_pay34 v244 c d e f, k0_pay33 v244 c d e f)))))) i = _
  rw [vout_at _ _ _ _ _ _ (by decide) (by decide), vspin_at _ _ _ _ (by decide) (by decide), vspin_at _ _ _ _ (by decide) (by decide),
    vspin_at _ _ _ _ (by decide) (by decide), vkeyed_at _ _ _ _ _ _ (by decide) (by decide), vspin_at _ _ _ _ (by decide) (by decide)]
  rfl

/-- The words of a trip are the random words of its counters. -/
theorem words_at (v18 : Vec F S128x1024 .i32) :
    words v18 k i = word (v18 i + Scalar.muli (Scf.iv 0#32 1#32 k) 1024#32) := by
  have h1 := trip1 (k0_pay44 v18) k i (v18 i + Scalar.muli (Scf.iv 0#32 1#32 k) 1024#32) (by
    show k0_pay44 v18 i + _ = _
    rw [show k0_pay44 v18 = v18 from shapeCast_self v18 _])
  unfold words
  rw [trip4, trip3', trip3, trip2, h1, word_eq]
  rfl

/-! ## The words and scores of the last columns -/

variable (v23 : IVec S128x672 32) (j : S128x672.Idx)

theorem last1 (v24 : BitVec 32) :
    (k0_pay55 v23 v24 j, k0_pay54 v23 v24 j) =
    spin 17#32 15#32 (keyed 6#32 26#32 42#32 v24 (spin 26#32 6#32 (spin 15#32 17#32 (half (pair0 (v23 j)))))) := rfl
theorem last2 (v25 : BitVec 32) (a b : IVec S128x672 32) :
    (k0_pay61 v25 a b 29#32 j, k0_pay60 v25 a b 29#32 j) =
    keyed 24#32 8#32 466689008#32 v25 (spin 16#32 16#32 (spin 29#32 3#32 (b j, a j))) := rfl
theorem last3 (v25 : BitVec 32) (a b : IVec S128x672 32) :
    (k0_pay67 v25 a b 29#32 j, k0_pay66 v25 a b 29#32 j) =
    spin 26#32 6#32 (spin 15#32 17#32 (spin 13#32 19#32 (k0_pay61 v25 a b 29#32 j, k0_pay60 v25 a b 29#32 j))) := rfl
theorem last4 (v26 v27 : BitVec 32) (c d : IVec S128x672 32) :
    (k0_pay78 v26 v27 c d k0_pay68 j, k0_pay77 v26 v27 c d k0_pay68 j) =
    keyed 24#32 8#32 42#32 v27 (spin 16#32 16#32 (spin 29#32 3#32 (spin 17#32 15#32 (keyed 6#32 26#32 0#32 v26 (d j, c j))))) := rfl

/-- Gumbel noise of a random word. -/
def gum (w : BitVec 32) : F .f32 :=
  FloatOps.subf (FloatOps.ofBits .f32 0x00000000#32) (FloatOps.log (FloatOps.subf (FloatOps.ofBits .f32 0x00000000#32)
    (FloatOps.log (FloatOps.maximumf (FloatOps.ofBits .f32 0x00800000#32)
      (FloatOps.subf (FloatOps.ofBits .f32 ((w >>> 9#32) ||| 1065353216#32)) (FloatOps.ofBits .f32 0x3F800000#32))))))

/-- The noise of a block of words is the noise of each. -/
theorem noise_at (w : IVec S128x1024 32) : noise (F := F) w i = gum (w i) := rfl

/-- The score at an element of a trip's block: the noise of its counter plus its logit. -/
theorem score_at (v18 : Vec F S128x1024 .i32) (y : FVec F S128x1024 .f32) :
    score v18 k y i = FloatOps.addf (gum (word (v18 i + Scalar.muli (Scf.iv 0#32 1#32 k) 1024#32))) (y i) := by
  rw [← words_at k i v18]; rfl

theorem last5 (v26 v27 v28 : BitVec 32) (c d : IVec S128x672 32) (e : FVec F S128x672 .f32) :
    k0_pay80 v28 (k0_pay78 v26 v27 c d k0_pay68) (k0_pay79 v26 v27 c d k0_pay68) e j =
    FloatOps.addf (gum (out 6#32 26#32 466689008#32 v28 (spin 26#32 6#32 (spin 15#32 17#32 (spin 13#32 19#32
      (k0_pay78 v26 v27 c d k0_pay68 j, k0_pay77 v26 v27 c d k0_pay68 j)))))) (e j) := by
  have h : k0_pay80 v28 (k0_pay78 v26 v27 c d k0_pay68) (k0_pay79 v26 v27 c d k0_pay68) e j =
      FloatOps.addf (gum (vout 6#32 26#32 466689008#32 v28 (vspin 26#32 6#32 (vspin 15#32 17#32 (vspin 13#32 19#32
      (k0_pay78 v26 v27 c d k0_pay68, k0_pay77 v26 v27 c d k0_pay68)))) j)) (shapeCast S128x672 e shapeCasts_S128x672_S128x672 j) := rfl
  rw [h, shapeCast_self, vout_at _ _ _ _ _ _ (by decide) (by decide), vspin_at _ _ _ _ (by decide) (by decide),
    vspin_at _ _ _ _ (by decide) (by decide), vspin_at _ _ _ _ (by decide) (by decide)]
  rfl

/-- The score at an element of the last columns: the noise of its counter plus its logit. -/
theorem lastScore_at (v18 : Vec F S128x1024 .i32) (e : Vec F S128x672 .f32) :
    lastScore v18 e j = FloatOps.addf (gum (word (k0_pay45 v18 j))) (e j) := by
  unfold lastScore
  rw [last5, last4, last3, last2, last1, word_eq]
  rfl

/-- The counter of an element of the last columns. -/
theorem lastCounter_at (v18 : Vec F S128x1024 .i32) (r : Fin 128) (l : Fin 672) :
    k0_pay45 v18 (ix2 r l) = v18 (ix2 r ⟨l.val, by omega⟩) + 99328#32 := by
  have h : k0_pay44 v18 = v18 := shapeCast_self v18 _
  unfold k0_pay45
  rw [h]
  pointwise
  rfl

end Cert.KernelIdeal.Hand

end
-- ==== Proof.Hand.First.lean ====
module

public import Idealize.ShloMosaic.Lib.Pointwise
public import Idealize.ShloMosaic.PureOps.Ideal.Laws

@[expose] public section

/-! # The first place of a greatest value -/

noncomputable section

namespace Cert.First

open Idealize.ShloMosaic

/-- `n` is the first place below `N` where `f` is greatest. -/
structure IsFirst (f : ℕ → EReal) (N n : ℕ) : Prop where
  lt : n < N
  top : ∀ m < N, f m ≤ f n
  first : ∀ m < n, f m < f n

/-- There is only one such place. -/
theorem IsFirst.unique {f : ℕ → EReal} {N n n' : ℕ} (h : IsFirst f N n) (h' : IsFirst f N n') : n = n' := by
  rcases lt_trichotomy n n' with g | g | g
  · exact absurd (h'.first n g) (not_lt.mpr (h.top n' h'.lt))
  · exact g
  · exact absurd (h.first n' g) (not_lt.mpr (h'.top n h.lt))

/-- A pair of a value and a number comes before another: its value is greater, or equal and its number no greater. -/
def Beats (p q : EReal × BitVec 32) : Prop := q.1 < p.1 ∨ (q.1 = p.1 ∧ p.2.toInt ≤ q.2.toInt)

theorem Beats.refl (p : EReal × BitVec 32) : Beats p p := .inr ⟨rfl, le_rfl⟩

theorem Beats.trans {p q r : EReal × BitVec 32} (h : Beats p q) (h' : Beats q r) : Beats p r := by
  rcases h with h | ⟨h, i⟩ <;> rcases h' with h' | ⟨h', i'⟩
  · exact .inl (h'.trans h)
  · exact .inl (h' ▸ h)
  · exact .inl (h ▸ h')
  · exact .inr ⟨h'.trans h, i.trans i'⟩

/-- A fold by an operation that keeps the better of two pairs ends in one of the pairs, better than all of them. -/
theorem foldl_beats (g : EReal × BitVec 32 → EReal × BitVec 32 → EReal × BitVec 32)
    (hg : ∀ a b, (g a b = a ∧ Beats a b) ∨ (g a b = b ∧ Beats b a)) (l : List (EReal × BitVec 32)) :
    ∀ a, l.foldl g a ∈ a :: l ∧ ∀ q ∈ a :: l, Beats (l.foldl g a) q := by
  induction l with
  | nil => exact fun a => ⟨List.mem_singleton.mpr rfl, fun q h => List.mem_singleton.mp h ▸ Beats.refl a⟩
  | cons b l ih =>
    intro a
    obtain ⟨hm, hb⟩ := ih (g a b)
    have hgb := hb _ List.mem_cons_self
    rcases hg a b with ⟨e, h⟩ | ⟨e, h⟩ <;> rw [e] at hm hgb <;> refine ⟨?_, fun q hq => ?_⟩
    · show l.foldl g (g a b) ∈ _
      rw [e]
      rcases List.mem_cons.mp hm with h | h <;> simp [h]
    · show Beats (l.foldl g (g a b)) q
      rcases List.mem_cons.mp hq with rfl | hq
      · rw [e]; exact hgb
      rcases List.mem_cons.mp hq with rfl | hq
      · rw [e]; exact hgb.trans h
      · exact hb q (List.mem_cons_of_mem _ hq)
    · show l.foldl g (g a b) ∈ _
      rw [e]
      rcases List.mem_cons.mp hm with h | h <;> simp [h]
    · show Beats (l.foldl g (g a b)) q
      rcases List.mem_cons.mp hq with rfl | hq
      · rw [e]; exact hgb.trans h
      rcases List.mem_cons.mp hq with rfl | hq
      · rw [e]; exact hgb
      · exact hb q (List.mem_cons_of_mem _ hq)

/-- A small number is itself as a signed word. -/
theorem toInt_ofNat {n : ℕ} (h : n < 2 ^ 31) : (BitVec.ofNat 32 n).toInt = n := by
  rw [BitVec.toInt_eq_toNat_of_lt (by simp; omega)]
  simp; omega

/-- The best of the pairs `(f c, c)` below `N` and of the pair `(⊥, 0)` is at the first place of the greatest value. -/
theorem isFirst_of_beats {f : ℕ → EReal} {N : ℕ} (hN : 0 < N) (hN' : N < 2 ^ 31) (p : EReal × BitVec 32)
    (hm : p = (⊥, 0#32) ∨ ∃ c < N, p = (f c, BitVec.ofNat 32 c)) (hb : ∀ c < N, Beats p (f c, BitVec.ofNat 32 c)) :
    ∃ n, IsFirst f N n ∧ p.2 = BitVec.ofNat 32 n := by
  rcases hm with rfl | ⟨c, hc, rfl⟩
  · have hz : ∀ c < N, f c = ⊥ := fun c hc => by
      rcases hb c hc with h | ⟨h, -⟩
      · exact absurd h not_lt_bot
      · exact h
    exact ⟨0, ⟨hN, fun m hm => by rw [hz m hm]; exact bot_le, fun m hm => absurd hm (Nat.not_lt_zero m)⟩, rfl⟩
  · refine ⟨c, ⟨hc, fun m hm => ?_, fun m hm => ?_⟩, rfl⟩
    · rcases hb m hm with h | ⟨h, -⟩
      · exact h.le
      · exact h.le
    · rcases hb m (hm.trans hc) with h | ⟨-, h⟩
      · exact h
      · simp only [toInt_ofNat (hc.trans hN'), toInt_ofNat ((hm.trans hc).trans hN')] at h
        omega

/-- The scores of row `r`: a noise drawn for the element's place, plus the element. -/
def rowScore (g : BitVec 32 → EReal) (A : Fin 128 → Fin 100000 → EReal) (r : Fin 128) (c : ℕ) : EReal :=
  if h : c < 100000 then g (BitVec.ofNat 32 (r.val * 100000 + c) + 42#32) + A r ⟨c, h⟩ else ⊥

theorem rowScore_lt (g : BitVec 32 → EReal) (A : Fin 128 → Fin 100000 → EReal) (r : Fin 128) (c : Fin 100000) :
    rowScore g A r c.val = g (BitVec.ofNat 32 (r.val * 100000 + c.val) + 42#32) + A r c := by
  simp only [rowScore, c.isLt, dif_pos]

/-- The bit pattern both programs start a running maximum from. -/
theorem ofBits_low : Ideal.ofBits .f32 0xFF800000#32 = ⊥ := by simp [Ideal.ofBits, Ideal.ieee]

end Cert.First
-- ==== Proof.Hand.Lanes.lean ====
module

public import proofs.«01_k».proof.Proof.Hand.First

@[expose] public section

/-! # A running maximum per lane, and the first maximum over the lanes

The columns are taken `1024` at a time: lane `l` meets the columns `j * 1024 + l`. -/

noncomputable section

namespace Cert.First

open Idealize.ShloMosaic

/-! ## One lane -/

/-- What a lane holds after the values `s 0 … s (k - 1)`: their maximum `a`, or the least value, and where it was met first. -/
def Lane (s : ℕ → EReal) (k : ℕ) (a : EReal) (b : BitVec 32) : Prop :=
  ∃ n, b = BitVec.ofNat 32 (n * 1024) ∧ (∀ j < k, s j ≤ a) ∧ (∀ j < n, s j < a) ∧ ((n < k ∧ a = s n) ∨ (n = 0 ∧ a = ⊥))

theorem Lane.start (s : ℕ → EReal) : Lane s 0 ⊥ 0#32 :=
  ⟨0, rfl, fun _ h => absurd h (Nat.not_lt_zero _), fun _ h => absurd h (Nat.not_lt_zero _), .inr ⟨rfl, rfl⟩⟩

/-- One more value: the maximum, and the new value's place where it exceeds what was held. -/
theorem Lane.next {s : ℕ → EReal} {k : ℕ} {a : EReal} {b : BitVec 32} (h : Lane s k a b) :
    Lane s (k + 1) (max a (s k)) (if a < s k then BitVec.ofNat 32 (k * 1024) else b) := by
  obtain ⟨n, hb, hle, hlt, hn⟩ := h
  by_cases g : a < s k
  · rw [if_pos g, max_eq_right g.le]
    exact ⟨k, rfl, fun j hj => (Nat.lt_succ_iff_lt_or_eq.mp hj).elim (fun h => (hle j h).trans g.le) (fun h => h ▸ le_rfl),
      fun j hj => (hle j hj).trans_lt g, .inl ⟨Nat.lt_succ_self k, rfl⟩⟩
  · rw [if_neg g, max_eq_left (not_lt.mp g)]
    exact ⟨n, hb, fun j hj => (Nat.lt_succ_iff_lt_or_eq.mp hj).elim (hle j) (fun h => h ▸ not_lt.mp g), hlt,
      hn.imp_left fun h => ⟨h.1.trans (Nat.lt_succ_self k), h.2⟩⟩

/-- After at least one value a lane holds the greatest and its first place. -/
theorem Lane.isFirst {s : ℕ → EReal} {k : ℕ} {a : EReal} {b : BitVec 32} (h : Lane s k a b) (hk : 0 < k) :
    ∃ n, IsFirst s k n ∧ a = s n ∧ b = BitVec.ofNat 32 (n * 1024) := by
  obtain ⟨n, hb, hle, hlt, ⟨hn, ha⟩ | ⟨hn, ha⟩⟩ := h
  · exact ⟨n, ⟨hn, fun j hj => ha ▸ hle j hj, fun j hj => ha ▸ hlt j hj⟩, ha, hb⟩
  · subst hn
    have h0 : a = s 0 := ha.trans (le_bot_iff.mp (ha ▸ hle 0 hk)).symm
    exact ⟨0, ⟨hk, fun j hj => h0 ▸ hle j hj, fun j hj => absurd hj (Nat.not_lt_zero j)⟩, h0, hb⟩

/-! ## All lanes -/

/-- A fold by an operation that returns one of its operands, the one of the greater key. -/
theorem fold_pick {ι α β : Type} [LinearOrder β] (op : α → α → α) [Std.Commutative op] [Std.Associative op] (key : α → β)
    (h : ∀ a b, (op a b = a ∨ op a b = b) ∧ key a ≤ key (op a b) ∧ key b ≤ key (op a b)) (init : α) (f : ι → α) (S : Finset ι) :
    (S.fold op init f = init ∨ ∃ i ∈ S, S.fold op init f = f i) ∧ ∀ i ∈ S, key (f i) ≤ key (S.fold op init f) := by
  classical
  induction S using Finset.induction_on with
  | empty => exact ⟨.inl rfl, fun i hi => absurd hi (Finset.notMem_empty i)⟩
  | insert i S hi ih =>
    rw [Finset.fold_insert hi]
    obtain ⟨h0, h1, h2⟩ := h (f i) (S.fold op init f)
    refine ⟨?_, fun j hj => ?_⟩
    · rcases h0 with e | e
      · exact .inr ⟨i, Finset.mem_insert_self i S, e⟩
      · rw [e]
        exact ih.1.imp_right fun ⟨j, hj, e⟩ => ⟨j, Finset.mem_insert_of_mem hj, e⟩
    · rcases Finset.mem_insert.mp hj with rfl | hj
      · exact h1
      · exact (ih.2 j hj).trans h2

/-- The least, over the lanes whose value is the greatest, of the columns where each met its value: the first maximum. -/
theorem isFirst_of_lanes {f : ℕ → EReal} {N : ℕ} (hN : N ≤ 100000) (g : Fin 1024 → ℕ) (hg : ∀ l, g l < N ∧ g l % 1024 = l.val)
    (htop : ∀ c < N, f c ≤ f (g ⟨c % 1024, Nat.mod_lt _ (by decide)⟩))
    (hfirst : ∀ l, ∀ c < g l, c % 1024 = l.val → f c < f (g l)) :
    ∃ n, IsFirst f N n ∧ (Finset.univ.fold IntOp.minsi 2147483647#32 fun l : Fin 1024 =>
      if f (g l) = Finset.univ.fold max ⊥ (fun l : Fin 1024 => f (g l)) then BitVec.ofNat 32 (g l) else 2147483647#32) =
        BitVec.ofNat 32 n := by
  obtain ⟨hM, hMle⟩ := fold_pick (max : EReal → EReal → EReal) id
    (fun a b => ⟨(le_total b a).imp max_eq_left max_eq_right, le_max_left a b, le_max_right a b⟩) ⊥ (fun l : Fin 1024 => f (g l)) Finset.univ
  generalize Finset.univ.fold max ⊥ (fun l : Fin 1024 => f (g l)) = M at hM hMle ⊢
  have hMle : ∀ l, f (g l) ≤ M := fun l => hMle l (Finset.mem_univ l)
  have hM : ∃ l, f (g l) = M := by
    rcases hM with h | ⟨l, -, h⟩
    · exact ⟨0, (le_bot_iff.mp (h ▸ hMle 0)).trans h.symm⟩
    · exact ⟨l, h.symm⟩
  obtain ⟨hm, hmle⟩ := fold_pick (IntOp.minsi : BitVec 32 → BitVec 32 → BitVec 32) (fun a => -a.toInt)
    (fun a b => by
      unfold IntOp.minsi
      split <;> rename_i h <;> simp only [BitVec.slt, BitVec.sle, decide_eq_true_eq, not_lt, not_le] at h <;> simp <;> omega) 2147483647#32
    (fun l : Fin 1024 => if f (g l) = M then BitVec.ofNat 32 (g l) else 2147483647#32) Finset.univ
  generalize (Finset.univ.fold IntOp.minsi 2147483647#32 fun l : Fin 1024 => if f (g l) = M then BitVec.ofNat 32 (g l) else 2147483647#32) = R at hm hmle ⊢
  have hi : ∀ l, (BitVec.ofNat 32 (g l)).toInt = g l := fun l => toInt_ofNat (by have := (hg l).1; omega)
  have hmle : ∀ l, f (g l) = M → R.toInt ≤ g l := fun l h => by
    have := hmle l (Finset.mem_univ l)
    rw [if_pos h, hi] at this
    omega
  have hbig : R ≠ 2147483647#32 := by
    rintro rfl
    obtain ⟨l, hl⟩ := hM
    have h1 := hmle l hl
    have h2 := (hg l).1
    have h3 : (2147483647#32).toInt = 2147483647 := by decide
    omega
  have hm : ∃ l, f (g l) = M ∧ R = BitVec.ofNat 32 (g l) := by
    rcases hm with h | ⟨l, -, h⟩
    · exact absurd h hbig
    · by_cases e : f (g l) = M
      · exact ⟨l, e, by rw [h, if_pos e]⟩
      · exact absurd (by rw [h, if_neg e]) hbig
  obtain ⟨l, hl, rfl⟩ := hm
  refine ⟨g l, ⟨(hg l).1, fun c hc => (htop c hc).trans (hl ▸ hMle _), fun c hc => ?_⟩, rfl⟩
  have hcN := hc.trans (hg l).1
  rcases (hMle ⟨c % 1024, Nat.mod_lt _ (by decide)⟩).lt_or_eq with h | h
  · exact hl ▸ (htop c hcN).trans_lt h
  · have h1 := hmle _ h
    rw [hi] at h1
    exact (hfirst ⟨c % 1024, Nat.mod_lt _ (by decide)⟩ c (by omega) rfl).trans_eq (h.trans hl.symm)

end Cert.First
-- ==== Proof.Hand.Sampled.lean ====
module

public import proofs.«01_k».proof.Proof.Hand.Words
public import proofs.«01_k».proof.Proof.Hand.Lanes
public import Idealize.ShloMosaic.Lib.Pipeline.Value

@[expose] public section

/-! # What the body leaves: the first place of each row's greatest score -/

set_option maxRecDepth 16384

noncomputable section

namespace Cert.KernelIdeal.Hand

open Cert.KernelIdeal Cert.KernelIdeal.Gen Cert.Mix Cert.First
open Idealize.ShloMosaic Idealize.ShloMosaic.TcCoe

/-! ## Reading the blocks and the running maximum -/

section Views
variable {F : FTy → Type} [FloatOps F]

/-- An element of a block of the array. -/
theorem block_at (c : Dev nD) (X : Buf (Elt F) (xM.view.loc (c : Thread nD τ))) (j : ℕ) (hj : j < 97) (r : Fin 128) (l : Fin 1024) :
    blockOf c X j hj (ix2 r l) = (X : FVec F S128x100000 .f32) (ix2 r ⟨j * 1024 + l.val, by omega⟩) := by
  refine congrArg X (funext fun a => Fin.ext ?_)
  fin_cases a
  · show 0 + 1 * r.val = r.val
    omega
  · show j * 1024 + 1 * l.val = j * 1024 + l.val
    omega

/-- The lanes of the last columns, of the running maximum, -/
theorem acc_left (a : FVec F S128x1024 .f32) (r : Fin 128) (l : Fin 672) :
    View.readAt (Elt F) accM.view left.toLoadRect a (ix2 r l) = a (ix2 r ⟨l.val, by omega⟩) := by
  refine congrArg a (funext fun a => Fin.ext ?_)
  fin_cases a
  · show 0 + 1 * r.val = r.val
    omega
  · show 0 + 1 * l.val = l.val
    omega
/-- and of the block offsets. -/
theorem blk_left (b : IVec S128x1024 32) (r : Fin 128) (l : Fin 672) :
    View.readAt (Elt F) blkM.view left.toLoadRect b (ix2 r l) = b (ix2 r ⟨l.val, by omega⟩) := by
  refine congrArg b (funext fun a => Fin.ext ?_)
  fin_cases a
  · show 0 + 1 * r.val = r.val
    omega
  · show 0 + 1 * l.val = l.val
    omega

/-- A store to the lanes of the last columns leaves the stored value there -/
theorem acc_written_left (a : FVec F S128x1024 .f32) (w : FVec F S128x672 .f32) (r : Fin 128) (l : Fin 672) :
    accM.view.writes (Elt F) a [⟨left, w⟩] (ix2 r (⟨l.val, by omega⟩ : Fin 1024)) = w (ix2 r l) :=
  (congrFun (View.read_whole (Val := Elt F) cc0_scratch1 (accM.view.writes (Elt F) a [⟨left, w⟩])) _).symm.trans
    (View.read_writes_cons_unit_of_mem (Val := Elt F) accM.view a inb_S128x1024_S128x672_0_0 w [] (ix2 r (⟨l.val, by omega⟩ : Fin 1024)) (ix2 r l) rfl
    (by intro a; fin_cases a <;> exact (Nat.zero_add _).symm))
theorem blk_written_left (b : IVec S128x1024 32) (w : IVec S128x672 32) (r : Fin 128) (l : Fin 672) :
    blkM.view.writes (Elt F) b [⟨left, w⟩] (ix2 r (⟨l.val, by omega⟩ : Fin 1024)) = w (ix2 r l) :=
  (congrFun (View.read_whole (Val := Elt F) cc0_scratch2 (blkM.view.writes (Elt F) b [⟨left, w⟩])) _).symm.trans
    (View.read_writes_cons_unit_of_mem (Val := Elt F) blkM.view b inb_S128x1024_S128x672_0_0 w [] (ix2 r (⟨l.val, by omega⟩ : Fin 1024)) (ix2 r l) rfl
    (by intro a; fin_cases a <;> exact (Nat.zero_add _).symm))

/-- and the other lanes as they were. -/
theorem acc_written_right (a : FVec F S128x1024 .f32) (w : FVec F S128x672 .f32) (r : Fin 128) (l : Fin 1024) (hl : 672 ≤ l.val) :
    accM.view.writes (Elt F) a [⟨left, w⟩] (ix2 r l) = a (ix2 r l) :=
  (congrFun (View.read_whole (Val := Elt F) cc0_scratch1 (accM.view.writes (Elt F) a [⟨left, w⟩])) _).symm.trans
    (View.read_writes_cons_unit_of_not_mem (Val := Elt F) accM.view a inb_S128x1024_S128x672_0_0 w [] (ix2 r l) rfl 1
      (.inr (by show 0 + 672 ≤ l.val; omega)))
theorem blk_written_right (b : IVec S128x1024 32) (w : IVec S128x672 32) (r : Fin 128) (l : Fin 1024) (hl : 672 ≤ l.val) :
    blkM.view.writes (Elt F) b [⟨left, w⟩] (ix2 r l) = b (ix2 r l) :=
  (congrFun (View.read_whole (Val := Elt F) cc0_scratch2 (blkM.view.writes (Elt F) b [⟨left, w⟩])) _).symm.trans
    (View.read_writes_cons_unit_of_not_mem (Val := Elt F) blkM.view b inb_S128x1024_S128x672_0_0 w [] (ix2 r l) rfl 1
      (.inr (by show 0 + 672 ≤ l.val; omega)))

/-- The maximum with the scores of the last columns, -/
theorem last_max (v : FVec F S128x672 .f32) (a : FVec F S128x672 .f32) : k0_pay1 v a = maximumf a v := shapeCast_self _ _
/-- and where they exceed it the last columns' offset. -/
theorem last_offset (v : FVec F S128x672 .f32) (a : FVec F S128x672 .f32) (b : IVec S128x672 32) :
    k0_pay2 v a b = select (cmpf .ogt v a) (broadcast S128x672 99328#32) b := shapeCast_self _ _

end Views

/-- The word a trip adds to the counters. -/
theorem trip_word (k : ℕ) (hk : k < 97) :
    Scalar.muli (Scf.iv 0#32 1#32 (⟨k, hk⟩ : Fin k0_t1_loop.trips)) 1024#32 = BitVec.ofNat 32 (k * 1024) := by
  apply BitVec.eq_of_toNat_eq
  simp [Scalar.muli, IntOp.muli, Scf.iv]

/-- A choice by a comparison of extended reals. -/
theorem choose_greater {α : Type} (s a : Ideal .f32) (x y : α) :
    Scalar.select (FloatOps.cmpf .ogt s a) x y = if (a : EReal) < s then x else y := by
  by_cases h : (a : EReal) < s <;> simp [Scalar.select, Ideal.cmpf_def, Ideal.cmp, h]

/-! ## One lane -/

variable (c : Dev nD) (X : Buf (Elt Ideal) (xM.view.loc (c : Thread nD τ))) (x : Vec Ideal S128x1024 .i32) (e : Vec Ideal S128x672 .f32)

/-- The noise of a counter. -/
abbrev noiseOf (t : BitVec 32) : EReal := gum (F := Ideal) (word t)
/-- The scores of a row. -/
abbrev scores (r : Fin 128) : ℕ → EReal := rowScore noiseOf (fun r c => (X : FVec Ideal S128x100000 .f32) (ix2 r c)) r

/-- The counters are the places of the first block's elements, plus the seed. -/
def Counters : Prop := ∀ (r : Fin 128) (l : Fin 1024), x (ix2 r l) = BitVec.ofNat 32 (r.val * 100000 + l.val) + 42#32
/-- The last columns are the array's. -/
def Columns : Prop := ∀ (r : Fin 128) (l : Fin 672), e (ix2 r l) = (X : FVec Ideal S128x100000 .f32) (ix2 r ⟨99328 + l.val, by omega⟩)

/-- A counter moved on. -/
theorem counter_add (n l k : ℕ) : BitVec.ofNat 32 (n + l) + 42#32 + BitVec.ofNat 32 k = BitVec.ofNat 32 (n + (k + l)) + 42#32 := by
  apply BitVec.eq_of_toNat_eq
  simp
  omega

/-- A trip's score is the score of the column. -/
theorem trip_score (hx : Counters x) (k : ℕ) (hk : k < 97) (r : Fin 128) (l : Fin 1024) :
    (score x ⟨k, hk⟩ (blockOf c X k hk) (ix2 r l) : EReal) = scores c X r (k * 1024 + l.val) := by
  rw [score_at, trip_word, hx, counter_add, block_at]
  exact (rowScore_lt noiseOf (fun r c => (X : FVec Ideal S128x100000 .f32) (ix2 r c)) r ⟨k * 1024 + l.val, by omega⟩).symm

/-- The score of one of the last columns. -/
theorem last_score (hx : Counters x) (he : Columns c X e) (r : Fin 128) (l : Fin 672) :
    (lastScore x e (ix2 r l) : EReal) = scores c X r (97 * 1024 + l.val) := by
  rw [lastScore_at, lastCounter_at, hx, he]
  have h := counter_add (r.val * 100000) l.val 99328
  rw [show (BitVec.ofNat 32 99328) = 99328#32 from rfl] at h
  rw [h]
  exact (rowScore_lt noiseOf (fun r c => (X : FVec Ideal S128x100000 .f32) (ix2 r c)) r ⟨99328 + l.val, by omega⟩).symm

/-- A choice between a word and an array by a comparison of arrays, at an element. -/
theorem choose_at {S : Shape} (v a : FVec Ideal S .f32) (w : BitVec 32) (b : IVec S 32) (i : S.Idx) :
    select (cmpf .ogt v a) (broadcast S w) b i = if (a i : EReal) < v i then w else b i :=
  choose_greater (v i) (a i) w (b i)
/-- A maximum of arrays, at an element. -/
theorem max_at {S : Shape} (v a : FVec Ideal S .f32) (i : S.Idx) : maximumf a v i = max (a i : EReal) (v i) := rfl
/-- The offsets after a trip, the trip's own offset named. -/
theorem blkNext_eq (k : Fin k0_t1_loop.trips) (y a : FVec Ideal S128x1024 .f32) (b : IVec S128x1024 32) (w : BitVec 32)
    (hw : Scalar.muli (Scf.iv 0#32 1#32 k) 1024#32 = w) :
    blkNext x k y a b = select (cmpf .ogt (score x k y) a) (broadcast S128x1024 w) b := by
  subst hw; rfl
/-- The running maximum after a trip, at an element, -/
theorem accNext_at (k : Fin k0_t1_loop.trips) (y a : FVec Ideal S128x1024 .f32) (i : S128x1024.Idx) (s : EReal) (hs : score x k y i = s) :
    accNext x k y a i = max (a i : EReal) s := by
  subst hs
  unfold accNext
  generalize score x k y = v
  rfl
/-- and the block offsets. -/
theorem blkNext_at (k : Fin k0_t1_loop.trips) (y a : FVec Ideal S128x1024 .f32) (b : IVec S128x1024 32) (i : S128x1024.Idx) (s : EReal)
    (hs : score x k y i = s) (w : BitVec 32) (hw : Scalar.muli (Scf.iv 0#32 1#32 k) 1024#32 = w) :
    blkNext x k y a b i = if (a i : EReal) < s then w else b i :=
  (congrFun (blkNext_eq x k y a b w hw) i).trans ((choose_at (score x k y) a w b i).trans (by rw [hs]))

/-- Before the first trip the maximum is the least value -/
theorem start_acc (i : S128x1024.Idx) : (k0_pay42 (F := Ideal) i : EReal) = ⊥ := by
  unfold k0_pay42
  rw [shapeCast_self]
  exact ofBits_low
/-- and the offsets are zero. -/
theorem start_blk (i : S128x1024.Idx) : k0_pay43 i = 0#32 := by
  unfold k0_pay43
  rw [shapeCast_self]
  rfl

/-- What a trip makes of the running maximum and the offsets. -/
theorem runAt_next (k : ℕ) (hk : k < 97) : runAt c X x (k + 1) =
    (accNext x ⟨k, hk⟩ (blockOf c X k hk) (runAt c X x k).1, blkNext x ⟨k, hk⟩ (blockOf c X k hk) (runAt c X x k).1 (runAt c X x k).2) := by
  rw [runAt]
  exact dif_pos hk

/-- Before trip `k` every lane holds the maximum of the `k` blocks before it. -/
theorem lane_run (hx : Counters x) (r : Fin 128) (l : Fin 1024) (k : ℕ) (hk : k ≤ 97) :
    Lane (fun j => scores c X r (j * 1024 + l.val)) k ((runAt c X x k).1 (ix2 r l)) ((runAt c X x k).2 (ix2 r l)) := by
  induction k with
  | zero =>
    rw [runAt]
    dsimp only
    rw [start_acc, start_blk]
    exact Lane.start _
  | succ k ih =>
    have hk' : k < 97 := hk
    have h := (ih hk'.le).next
    rw [runAt_next c X x k hk']
    generalize runAt c X x k = p at h
    dsimp only
    have hs := trip_score c X x hx k hk' r l
    rw [accNext_at x _ _ p.1 _ _ hs, blkNext_at x _ _ p.1 p.2 _ _ hs _ (trip_word k hk')]
    exact h

/-! ## The last columns -/

variable (a : FVec Ideal S128x1024 .f32) (b : IVec S128x1024 32)

/-- The last columns in the running maximum, -/
theorem accEnd_left (hx : Counters x) (he : Columns c X e) (r : Fin 128) (l : Fin 672) :
    accEnd x e a (ix2 r (⟨l.val, by omega⟩ : Fin 1024)) =
      max (a (ix2 r ⟨l.val, by omega⟩) : EReal) (scores c X r (97 * 1024 + l.val)) := by
  unfold accEnd
  rw [acc_written_left, last_max, max_at, acc_left, last_score c X x e hx he r l]
/-- and in the block offsets. -/
theorem blkEnd_left (hx : Counters x) (he : Columns c X e) (r : Fin 128) (l : Fin 672) :
    blkEnd x e a b (ix2 r (⟨l.val, by omega⟩ : Fin 1024)) =
      if (a (ix2 r ⟨l.val, by omega⟩) : EReal) < scores c X r (97 * 1024 + l.val) then BitVec.ofNat 32 (97 * 1024)
        else b (ix2 r ⟨l.val, by omega⟩) := by
  unfold blkEnd
  rw [blk_written_left, last_offset, choose_at, acc_left, blk_left (F := Ideal) b r l, last_score c X x e hx he r l]

/-- How many columns a lane meets. -/
def blocks (l : Fin 1024) : ℕ := if l.val < 672 then 98 else 97

/-- At the end every lane holds the maximum of all its columns. -/
theorem lane_end (hx : Counters x) (he : Columns c X e) (r : Fin 128) (l : Fin 1024)
    (h : Lane (fun j => scores c X r (j * 1024 + l.val)) 97 (a (ix2 r l)) (b (ix2 r l))) :
    Lane (fun j => scores c X r (j * 1024 + l.val)) (blocks l) (accEnd x e a (ix2 r l)) (blkEnd x e a b (ix2 r l)) := by
  by_cases hl : l.val < 672
  · rw [show blocks l = 97 + 1 from if_pos hl, accEnd_left c X x e a hx he r ⟨l.val, hl⟩, blkEnd_left c X x e a b hx he r ⟨l.val, hl⟩]
    exact h.next
  · rw [show blocks l = 97 from if_neg hl]
    unfold accEnd blkEnd
    rw [acc_written_right a _ r l (not_lt.mp hl), blk_written_right (F := Ideal) b _ r l (not_lt.mp hl)]
    exact h

/-! ## All lanes -/

/-- What is stored of a row: the least, over the lanes whose maximum is the greatest, of block offset plus lane. -/
theorem stored_at (r : Fin 128) : k0_pay3 (F := Ideal) a b (ix2 r 0) =
    Finset.univ.fold IntOp.minsi 2147483647#32 fun l : Fin 1024 =>
      if (a (ix2 r l) : EReal) = Finset.univ.fold max ⊥ (fun l : Fin 1024 => (a (ix2 r l) : EReal)) then
        b (ix2 r l) + BitVec.ofNat 32 l.val else 2147483647#32 := by
  unfold k0_pay3
  pointwise
  rw [ofBits_low]
  rfl

/-- What the body leaves of a row: the first place of the row's greatest score. -/
theorem out_first (hx : Counters x) (he : Columns c X e) (r : Fin 128) :
    ∃ n, IsFirst (scores c X r) 100000 n ∧ outVal c X x e (ix2 r 0) = BitVec.ofNat 32 n := by
  have H := fun l : Fin 1024 => (lane_end c X x e _ _ hx he r l (lane_run c X x hx r l 97 le_rfl)).isFirst
    (by unfold blocks; split <;> decide)
  choose n hn ha hb using H
  unfold outVal
  rw [stored_at]
  have hlt : ∀ l : Fin 1024, n l * 1024 + l.val < 100000 := fun l => by
    have h := (hn l).lt
    unfold blocks at h
    split at h <;> omega
  obtain ⟨p, hp, he⟩ := isFirst_of_lanes (f := scores c X r) (N := 100000) le_rfl (fun l => n l * 1024 + l.val)
    (fun l => ⟨hlt l, by have := l.isLt; omega⟩)
    (fun q hq => by
      have h := (hn ⟨q % 1024, Nat.mod_lt _ (by decide)⟩).top (q / 1024) (by
        unfold blocks
        split <;> rename_i g <;> simp only at g <;> omega)
      have e : q / 1024 * 1024 + q % 1024 = q := by omega
      simp only [e] at h
      exact h)
    (fun l q hq hql => by
      have h := (hn l).first (q / 1024) (by have := l.isLt; omega)
      have e : q / 1024 * 1024 + l.val = q := by omega
      simp only [e] at h
      exact h)
  refine ⟨p, hp, Eq.trans ?_ he⟩
  simp only [ha, hb, BitVec.ofNat_add]

end Cert.KernelIdeal.Hand
-- ==== Proof.Hand.Final.lean ====
module

public import proofs.«01_k».proof.Proof.Hand.Launch
public import proofs.«01_k».proof.Proof.Hand.Sampled
public import Idealize.ShloMosaic.Lib.StableHlo.ReadAt

@[expose] public section

/-! # The kernel program's result -/

set_option maxRecDepth 16384

noncomputable section

namespace Cert.KernelIdeal.Hand

open Cert.KernelIdeal Cert.KernelIdeal.Gen Cert.Mix Cert.First
open Idealize.ShloMosaic Idealize.ShloMosaic.TcCoe Idealize.ShloMosaic.StableHlo Idealize.SL.Sem

section Reads
variable {F : FTy → Type} [FloatOps F] (m : (ℓ : Loc nD τ sig) → Buf (Elt F) ℓ) (c : Dev nD)

/-- The counters' block is the whole array of counters, -/
theorem iblk_counters (t : Fin cfg0.N) (r : Fin 128) (l : Fin 1024) : iblk m c 0 t (ix2 r l) = (V m c main_v11 : IVec S128x1024 32) (ix2 r l) := by
  refine congrArg (V m c main_v11 : IVec S128x1024 32) (funext fun a => Fin.ext ?_)
  fin_cases a
  · show 0 * 128 + 1 * r.val = r.val
    omega
  · show 0 * 1024 + 1 * l.val = l.val
    omega
/-- and the last columns' the whole array of them. -/
theorem iblk_columns (t : Fin cfg0.N) (r : Fin 128) (l : Fin 672) : iblk m c 1 t (ix2 r l) = (V m c main_v12 : FVec F S128x672 .f32) (ix2 r l) := by
  refine congrArg (V m c main_v12 : FVec F S128x672 .f32) (funext fun a => Fin.ext ?_)
  fin_cases a
  · show 0 * 128 + 1 * r.val = r.val
    omega
  · show 0 * 672 + 1 * l.val = l.val
    omega

/-- The host's counters. -/
theorem counters_at (r : Fin 128) (l : Fin 1024) :
    (V m c main_v11 : IVec S128x1024 32) (ix2 r l) = BitVec.ofNat 32 (r.val * 100000 + l.val) + 42#32 := by
  have h : (V m c main_v11 : IVec S128x1024 32) (ix2 r l) = BitVec.ofNat 32 r.val * 100000#32 + BitVec.ofNat 32 l.val + 42#32 := by
    unfold V V0 hostOps0
    after_reads_at
    rfl
  rw [h]
  apply BitVec.eq_of_toNat_eq
  simp

/-- The host's last columns. -/
theorem columns_at (r : Fin 128) (l : Fin 672) : (V m c main_v12 : FVec F S128x672 .f32) (ix2 r l) =
    (m ((c : Thread nD τ).loc main_arg0) : FVec F S128x100000 .f32) (ix2 r ⟨99328 + l.val, by omega⟩) := by
  unfold V V0 hostOps0
  after_reads_at

/-- What the body leaves, from the arrays as the region finds them. -/
def result : IVec S128x1 32 := outVal c (V m c main_arg0) (iblk m c 0 t0_0) (iblk m c 1 t0_0)

/-- The one point writes the whole result back. -/
theorem flushed_result (t : Fin cfg0.N) : (dats m 0 c).flushed 2 t = (win0_2.blk t).view.read (Elt F) (result m c) := by
  obtain rfl := fin_N0 t
  show (cfg0.win 2).cut (grid0.coords t0_0) ((dats m 0 c).after 2 t0_0) = _
  rw [after2]
  unfold result
  generalize outVal c (V m c main_arg0) (iblk m c 0 t0_0) (iblk m c 1 t0_0) = y
  funext j
  refine congrArg y (funext fun a => Fin.ext ?_)
  fin_cases a
  · show (j 0).val = 0 * 128 + 1 * (j 0).val
    omega
  · show (j 1).val = 0 * 1 + 1 * (j 1).val
    omega

/-- Every element of the result is in the block of the one point. -/
theorem covered (i : S128x1.Idx) : ∃ t : Fin cfg0.N, (cfg0.win 2).flush t = true ∧ i ∈ ((cfg0.win 2).blk t).view.set := by
  refine ⟨t0_0, flush0_2 _, ?_⟩
  show i ∈ ((View.whole main_v13).slice (win0_2.rect t0_0)).set
  rw [View.set_slice_whole, Rect.mem_set_unit]
  have h0 : (i 0 : Nat) < 128 := (i 0).isLt
  have h1 : (i 1 : Nat) < 1 := (i 1).isLt
  intro a
  match a with
  | ⟨0, _⟩ => exact (show 0 * 128 ≤ (i 0 : Nat) ∧ (i 0 : Nat) < 0 * 128 + 128 from by omega)
  | ⟨1, _⟩ => exact (show 0 * 1 ≤ (i 1 : Nat) ∧ (i 1 : Nat) < 0 * 1 + 1 from by omega)

/-- The result's array after the kernel. -/
theorem array_result : (dats m 0 c).arrAt 2 cfg0.N = result m c :=
  (dats m 0 c).arrAt_eq_of_cover 2 (result m c) (fun t _ => flushed_result m c t) covered

/-- The program's result is the array's one column. -/
theorem final_at (r : Fin 128) : (finalOf m c main_v14 : IVec S128 32) (ix1 r) = result m c (ix2 r 0) := by
  unfold finalOf Pipeline.afterTail₀
  have h := Pipeline.withArrays_arr spec0 (by decide) c (V0 m c) (fun w => (dats m 0 c).arrAt w cfg0.N) 2
  rw [array_result] at h
  generalize Pipeline.withArrays (cfgs 0).spec c (V0 m c) (fun w => (dats m 0 c).arrAt w (cfgs 0).N) = W at h ⊢
  unfold hostOps1
  after_reads_at
  exact congrFun h (ix2 r 0)

end Reads

/-- Row `r` of the program's result is the first place of the row's greatest score. -/
theorem final_first (m : (ℓ : Loc nD τ sig) → Buf (Elt Ideal) ℓ) (c : Dev nD) (r : Fin 128) :
    ∃ n, IsFirst (scores c (m ((c : Thread nD τ).loc main_arg0)) r) 100000 n ∧
      (finalOf m c main_v14 : IVec S128 32) (ix1 r) = BitVec.ofNat 32 n := by
  rw [final_at]
  unfold result
  rw [V_main_arg0]
  exact out_first c _ _ _ (fun r l => (iblk_counters m c t0_0 r l).trans (counters_at m c r l))
    (fun r l => (iblk_columns m c t0_0 r l).trans (columns_at m c r l)) r

end Cert.KernelIdeal.Hand
-- ==== Proof.Hand.RefMix.lean ====
module

public import proofs.«01_k».proof.Proof.Hand.RefRun
public import proofs.«01_k».proof.Proof.Hand.Mix
public import Idealize.ShloMosaic.Lib.Pointwise

@[expose] public section

/-! # The words of the reference, element by element -/

set_option maxRecDepth 16384

noncomputable section

namespace Cert.ReferenceIdeal.Hand

open Cert.ReferenceIdeal Cert.ReferenceIdeal.Gen Cert.Mix
open Idealize.ShloMosaic Idealize.ShloMosaic.TcCoe Idealize.ShloMosaic.StableHlo Idealize.SL.Sem

variable {F : FTy → Type} [FloatOps F]

/-- Two lines of operations one after the other. -/
theorem after_two (l₁ l₂ : List (HloOp τ sig (Elt F))) (V : Valuation τ sig (Elt F)) :
    after (l₁ ++ l₂) V = after l₂ (after l₁ V) := by
  induction l₁ generalizing V with
  | nil => rfl
  | cons op l ih => exact ih _

/-- The contents of a typed reference. -/
abbrev get {T : BufTy} (V : Valuation τ sig (Elt F)) (x : TRef sig T) : T.Contents (Elt F) := x.ofBuf (V (Proc.devRef .tc x.ref))

theorem spread_at (x : IVec S_ 32) (i : S128x100000.Idx) : spread x i = x ix0 := by
  unfold spread; pointwise

theorem shl_at (x y : IVec S128x100000 32) (i : S128x100000.Idx) (r : BitVec 32) (hy : y i = r) (hr : r.toNat < 32) :
    Host.shli x y i = x i <<< r := by
  show IntOp.shli .host (x i) (y i) = _
  rw [hy]; exact if_pos hr
theorem shr_at (x y : IVec S128x100000 32) (i : S128x100000.Idx) (r : BitVec 32) (hy : y i = r) (hr : r.toNat < 32) :
    Host.shrui x y i = x i >>> r := by
  show IntOp.shrui .host (x i) (y i) = _
  rw [hy]; exact if_pos hr

/-- A round's operations leave the next pair of words. -/
theorem round_reads (x0 x1 : RW) (r r' : BitVec 32) (s : RW) (c : RS) (b l : RW) (c' : RS) (b' h o y : RW)
    (hn : [x0.ref, x1.ref, s.ref, c.ref, b.ref, l.ref, c'.ref, b'.ref, h.ref, o.ref, y.ref].Nodup)
    (V : Valuation τ sig (Elt F)) :
    get (after (roundOps x0 x1 r r' s c b l c' b' h o y) V) s = addi (get V x0) (get V x1) ∧
    get (after (roundOps x0 x1 r r' s c b l c' b' h o y) V) y =
      xori (addi (get V x0) (get V x1)) (ori (Host.shli (get V x1) (spread (constantI S_ 32 r))) (Host.shrui (get V x1) (spread (constantI S_ 32 r')))) := by
  simp only [List.nodup_cons, List.mem_cons, List.not_mem_nil, or_false, not_or, not_false_eq_true, true_and, List.nodup_nil, and_true] at hn
  obtain ⟨h0, h1, h2, h3, h4, h5, h6, h7, h8, h9⟩ := hn
  constructor <;>
  simp only [roundOps, after_cons, after_nil, TRef.binary, TRef.unary, TRef.nullary, get, nullary_result', unary_result', binary_result',
    nullary_result_ne', unary_result_ne', binary_result_ne', TRef.ofBuf_toBuf, ne_eq, h0, h1, h2, h3, h4, h5, h6, h7, h8, h9, not_false_eq_true]

/-- An addition of key words leaves the two sums. -/
theorem inject_reads (x0 x1 : RW) (ka kb : RS) (n : BitVec 32) (b s b' s' : RW) (c : RS) (d t : RW)
    (hn : [x0.ref, x1.ref, b.ref, s.ref, b'.ref, s'.ref, c.ref, d.ref, t.ref].Nodup)
    (hb : ∀ w ∈ [b.ref, s.ref, b'.ref, s'.ref, c.ref, d.ref, t.ref], kb.ref ≠ w)
    (V : Valuation τ sig (Elt F)) :
    get (after (injectOps x0 x1 ka kb n b s b' s' c d t) V) s = addi (get V x0) (spread (get V ka)) ∧
    get (after (injectOps x0 x1 ka kb n b s b' s' c d t) V) t = addi (addi (get V x1) (spread (get V kb))) (spread (constantI S_ 32 n)) := by
  simp only [List.nodup_cons, List.mem_cons, List.not_mem_nil, or_false, not_or, not_false_eq_true, true_and, List.nodup_nil, and_true] at hn
  simp only [List.forall_mem_cons, List.not_mem_nil, false_imp_iff, implies_true, and_true, ne_eq] at hb
  obtain ⟨h0, h1, h2, h3, h4, h5, h6, h7⟩ := hn
  constructor <;>
  simp only [injectOps, after_cons, after_nil, TRef.binary, TRef.unary, TRef.nullary, get, nullary_result', unary_result', binary_result',
    nullary_result_ne', unary_result_ne', binary_result_ne', TRef.ofBuf_toBuf, ne_eq, h0, h1, h2, h3, h4, h5, h6, h7, hb, not_false_eq_true]

/-- The key's three words, by number. -/
def keyRef (arg0 arg1 : RS) (φ : fn_threefry2x32.Bufs) : Fin 3 → RS := ![arg0, arg1, φ.v1]
/-- Their values. -/
def keyWord : Fin 3 → BitVec 32 := ![0#32, 42#32, 466689008#32]

/-- The pair `p` is held at element `i` by the references `x0`, `x1`, and the key's words by theirs. -/
structure Holds (K : Fin 3 → RS) (i : S128x100000.Idx) (V : Valuation τ sig (Elt F)) (x0 x1 : RW) (p : BitVec 32 × BitVec 32) : Prop where
  fst : get V x0 i = p.1
  snd : get V x1 i = p.2
  key : ∀ a, get V (K a) ix0 = keyWord a

variable {K : Fin 3 → RS} {i : S128x100000.Idx} {V : Valuation τ sig (Elt F)} {p : BitVec 32 × BitVec 32}

/-- A round moves the pair on. -/
theorem Holds.round {x0 x1 : RW} {r r' : BitVec 32} {s : RW} {c : RS} {b l : RW} {c' : RS} {b' h o y : RW}
    (hn : [x0.ref, x1.ref, s.ref, c.ref, b.ref, l.ref, c'.ref, b'.ref, h.ref, o.ref, y.ref].Nodup)
    (hK : ∀ a, (K a).ref ∉ [s.ref, c.ref, b.ref, l.ref, c'.ref, b'.ref, h.ref, o.ref, y.ref])
    (hr : r.toNat < 32) (hr' : r'.toNat < 32) (H : Holds K i V x0 x1 p) :
    Holds K i (after (roundOps x0 x1 r r' s c b l c' b' h o y) V) s y (turn r r' p) := by
  obtain ⟨e1, e2⟩ := round_reads x0 x1 r r' s c b l c' b' h o y hn V
  refine ⟨?_, ?_, fun a => ?_⟩
  · rw [e1]; show get V x0 i + get V x1 i = p.1 + p.2; rw [H.fst, H.snd]
  · rw [e2]
    show (get V x0 i + get V x1 i) ^^^ (Host.shli (get V x1) (spread (constantI S_ 32 r)) i ||| Host.shrui (get V x1) (spread (constantI S_ 32 r')) i) = _
    rw [shl_at _ _ i r (by rw [spread_at]; rfl) hr, shr_at _ _ i r' (by rw [spread_at]; rfl) hr', H.fst, H.snd, BitVec.xor_comm]
    rfl
  · rw [← H.key a]
    exact congrFun (congrArg (K a).ofBuf (after_unwritten _ rfl (hK a) V)) ix0

/-- An addition of key words adds them to the pair. -/
theorem Holds.inject (a b : Fin 3) {x0 x1 : RW} {n w : BitVec 32} {ba s bb s' : RW} {c : RS} {d t : RW}
    (hn : [x0.ref, x1.ref, ba.ref, s.ref, bb.ref, s'.ref, c.ref, d.ref, t.ref].Nodup)
    (hK : ∀ a, (K a).ref ∉ [ba.ref, s.ref, bb.ref, s'.ref, c.ref, d.ref, t.ref])
    (hw : keyWord b + n = w) (H : Holds K i V x0 x1 p) :
    Holds K i (after (injectOps x0 x1 (K a) (K b) n ba s bb s' c d t) V) s t (plus (keyWord a) w p) := by
  obtain ⟨e1, e2⟩ := inject_reads x0 x1 (K a) (K b) n ba s bb s' c d t hn (fun w hw e => hK b (e ▸ hw)) V
  refine ⟨?_, ?_, fun k => ?_⟩
  · rw [e1]; show get V x0 i + spread (get V (K a)) i = _
    rw [spread_at, H.fst, H.key]; rfl
  · rw [e2]; show get V x1 i + spread (get V (K b)) i + n = _
    rw [spread_at, H.snd, H.key, BitVec.add_assoc, hw]; rfl
  · rw [← H.key k]
    exact congrFun (congrArg (K k).ofBuf (after_unwritten _ rfl (hK k) V)) ix0

/-- The twenty rounds and five additions of key words mix the pair. -/
theorem mix_holds {t : BitVec 32} (H : Holds (keyRef (.of main_v8) (.of main_v10) main_call0) i V main_call0.v3 main_call0.v5 (0#32, t)) :
    Holds (keyRef (.of main_v8) (.of main_v10) main_call0) i (after (mixOps (.of main_v8) (.of main_v10) main_call0) V)
      main_call0.v171 main_call0.v175 (mix (pair0 t)) := by
  rw [← turn_zero t]
  simp only [mixOps, after_two, mix, oddTurns, evenTurns]
  refine Holds.inject 2 0 (by decide) (by decide) (by decide) ?_
  iterate 4 refine Holds.round (by decide) (by decide) (by decide) (by decide) ?_
  refine Holds.inject 1 2 (by decide) (by decide) (by decide) ?_
  iterate 4 refine Holds.round (by decide) (by decide) (by decide) (by decide) ?_
  refine Holds.inject 0 1 (by decide) (by decide) (by decide) ?_
  iterate 4 refine Holds.round (by decide) (by decide) (by decide) (by decide) ?_
  refine Holds.inject 2 0 (by decide) (by decide) (by decide) ?_
  iterate 4 refine Holds.round (by decide) (by decide) (by decide) (by decide) ?_
  refine Holds.inject 1 2 (by decide) (by decide) (by decide) ?_
  iterate 4 refine Holds.round (by decide) (by decide) (by decide) (by decide) ?_
  exact H

end Cert.ReferenceIdeal.Hand

end
-- ==== Proof.Hand.RefValue.lean ====
module

public import proofs.«01_k».proof.Proof.Hand.RefMix
public import Idealize.ShloMosaic.Lib.StableHlo.ReadAt

@[expose] public section

/-! # The scores of the reference -/

set_option maxRecDepth 16384

noncomputable section

namespace Cert.ReferenceIdeal.Hand

open Cert.ReferenceIdeal Cert.ReferenceIdeal.Gen Cert.Mix
open Idealize.ShloMosaic Idealize.ShloMosaic.TcCoe Idealize.ShloMosaic.StableHlo Idealize.SL.Sem

variable {F : FTy → Type} [FloatOps F] (V : Valuation τ sig (Elt F))

/-- The key's first word is zero. -/
theorem pre_key0 : (after preOps V (Proc.devRef .tc main_v8) : IVec S_ 32) ix0 = 0#32 := by
  unfold preOps
  after_reads_at
  after_reads_at
  rfl
/-- The key's second word is the seed. -/
theorem pre_key1 : (after preOps V (Proc.devRef .tc main_v10) : IVec S_ 32) ix0 = 42#32 := by
  unfold preOps
  after_reads_at
  after_reads_at
  rfl
/-- The counter's low word. -/
theorem pre_lo (r : Fin 128) (c : Fin 100000) :
    (after preOps V (Proc.devRef .tc main_v20) : IVec S128x100000 32) (ix2 r c) = BitVec.ofNat 32 (r.val * 100000 + c.val) := by
  unfold preOps
  after_reads_at
  apply BitVec.eq_of_toNat_eq
  simp only [IntOp.addi, IntOp.muli, BitVec.toNat_setWidth, BitVec.toNat_add, BitVec.toNat_mul, BitVec.toNat_ofNat]
  omega
/-- The counter's high word is zero. -/
theorem pre_hi (r : Fin 128) (c : Fin 100000) :
    (after preOps V (Proc.devRef .tc main_v21) : IVec S128x100000 32) (ix2 r c) = 0#32 := by
  unfold preOps
  after_reads_at
  rw [show IntOp.shrui .host (IntOp.addi (IntOp.muli 100000#64 (BitVec.ofNat 64 r.val)) (IntOp.muli 1#64 (BitVec.ofNat 64 c.val))) 32#64 =
    IntOp.addi (IntOp.muli 100000#64 (BitVec.ofNat 64 r.val)) (IntOp.muli 1#64 (BitVec.ofNat 64 c.val)) >>> 32#64 from if_pos (by decide)]
  have e : (IntOp.addi (IntOp.muli 100000#64 (BitVec.ofNat 64 r.val)) (IntOp.muli 1#64 (BitVec.ofNat 64 c.val))).toNat = r.val * 100000 + c.val := by
    simp only [IntOp.addi, IntOp.muli, BitVec.toNat_add, BitVec.toNat_mul, BitVec.toNat_ofNat]
    omega
  apply BitVec.eq_of_toNat_eq
  rw [BitVec.toNat_setWidth, BitVec.ushiftRight_eq', BitVec.toNat_ushiftRight, e, Nat.shiftRight_eq_div_pow]
  show (r.val * 100000 + c.val) / 4294967296 % 4294967296 = 0
  rw [Nat.div_eq_of_lt (by omega)]

/-- The counters enter the mixing: zero, and the counter plus the seed; the key's words stand. -/
theorem head_holds (r : Fin 128) (c : Fin 100000) :
    Holds (keyRef (.of main_v8) (.of main_v10) main_call0) (ix2 r c)
      (after (headOps (.of main_v8) (.of main_v10) (.of main_v21) (.of main_v20) main_call0) (after preOps V)) main_call0.v3 main_call0.v5
      (0#32, BitVec.ofNat 32 (r.val * 100000 + c.val) + 42#32) := by
  have k0 := pre_key0 V
  have k1 := pre_key1 V
  have lo := pre_lo V r c
  have hi := pre_hi V r c
  generalize after preOps V = W at k0 k1 lo hi ⊢
  refine ⟨?_, ?_, fun a => ?_⟩
  · show (after (headOps (.of main_v8) (.of main_v10) (.of main_v21) (.of main_v20) main_call0) W (Proc.devRef .tc main_call0_v3) : IVec S128x100000 32) (ix2 r c) = _
    unfold headOps
    after_reads_at
    exact (congrArg₂ IntOp.addi hi k0).trans (BitVec.add_zero _)
  · show (after (headOps (.of main_v8) (.of main_v10) (.of main_v21) (.of main_v20) main_call0) W (Proc.devRef .tc main_call0_v5) : IVec S128x100000 32) (ix2 r c) = _
    unfold headOps
    after_reads_at
    exact congrArg₂ IntOp.addi lo k1
  · match a with
    | 0 =>
      show (after (headOps (.of main_v8) (.of main_v10) (.of main_v21) (.of main_v20) main_call0) W (Proc.devRef .tc main_v8) : IVec S_ 32) ix0 = _
      unfold headOps
      after_reads_at
      exact k0
    | 1 =>
      show (after (headOps (.of main_v8) (.of main_v10) (.of main_v21) (.of main_v20) main_call0) W (Proc.devRef .tc main_v10) : IVec S_ 32) ix0 = _
      unfold headOps
      after_reads_at
      exact k1
    | 2 =>
      show (after (headOps (.of main_v8) (.of main_v10) (.of main_v21) (.of main_v20) main_call0) W (Proc.devRef .tc main_call0_v1) : IVec S_ 32) ix0 = _
      unfold headOps
      after_reads_at
      rw [k0, k1]; rfl

/-- The two words of the reference at an element. -/
theorem mixed (r : Fin 128) (c : Fin 100000) :
    Holds (keyRef (.of main_v8) (.of main_v10) main_call0) (ix2 r c)
      (after (mixOps (.of main_v8) (.of main_v10) main_call0)
        (after (headOps (.of main_v8) (.of main_v10) (.of main_v21) (.of main_v20) main_call0) (after preOps V)))
      main_call0.v171 main_call0.v175 (mix (pair0 (BitVec.ofNat 32 (r.val * 100000 + c.val) + 42#32))) :=
  mix_holds (head_holds V r c)

variable (U : Valuation τ sig (Elt F))

/-- Gumbel noise of a random word, as the reference computes it. -/
def gum (w : BitVec 32) : F .f32 :=
  FloatOps.hostNegf (FloatOps.hostUnary .log (FloatOps.hostNegf (FloatOps.hostUnary .log (FloatOps.maximumf (FloatOps.ofBits .f32 0x00800000#32)
      (FloatOps.subf (FloatOps.ofBits .f32 ((w >>> 9#32) ||| 1065353216#32)) (FloatOps.ofBits .f32 0x3F800000#32))))))

/-- The score at an element: the noise of the two words joined, plus the argument there. -/
theorem noise_reads (i : S128x100000.Idx) (p : BitVec 32 × BitVec 32) (x : F .f32)
    (h0 : (U (Proc.devRef .tc main_v22_0) : IVec S128x100000 32) i = p.1) (h1 : (U (Proc.devRef .tc main_v22_1) : IVec S128x100000 32) i = p.2)
    (hx : (U (Proc.devRef .tc main_arg0) : FVec F S128x100000 .f32) i = x) :
    (after noiseOps U (Proc.devRef .tc main_v37) : FVec F S128x100000 .f32) i = FloatOps.addf (gum (p.1 ^^^ p.2)) x := by
  subst hx
  have hs : IntOp.shrui .host (p.1 ^^^ p.2) 9#32 = (p.1 ^^^ p.2) >>> 9#32 := if_pos (by decide)
  unfold noiseOps
  after_reads_at
  rw [h0, h1]
  show FloatOps.addf (FloatOps.hostNegf (FloatOps.hostUnary .log (FloatOps.hostNegf (FloatOps.hostUnary .log (FloatOps.maximumf (FloatOps.ofBits .f32 0x00800000#32)
      (FloatOps.subf (FloatOps.ofBits .f32 (IntOp.shrui .host (p.1 ^^^ p.2) 9#32 ||| 1065353216#32)) (FloatOps.ofBits .f32 0x3F800000#32))))))) _ = _
  rw [hs]
  rfl

/-- The result: the column of the first greatest score of each row. -/
theorem argmax_reads :
    (after (argmaxOps (.of main_v37) main_call1) U (Proc.devRef .tc main_v38) : IVec S128 32) = fun i =>
      (Host.argReduce (F := F) reducer_argmax_f32_i32 (U (Proc.devRef .tc main_v37)) (iotaInDim S128x100000 32 1) (constant S_ .f32 0xFF800000#32)
        (constantI S_ 32 0#32) reducesTo_S128x100000_S128_d1 h_S_ i).2 := by
  unfold argmaxOps
  after_reads_simp
  simp only [TRef.ofBuf_toBuf]
  rfl

/-- The scores, before the arg-max. -/
theorem ops_score (r : Fin 128) (c : Fin 100000) :
    (after noiseOps (after (mixOps (.of main_v8) (.of main_v10) main_call0)
        (after (headOps (.of main_v8) (.of main_v10) (.of main_v21) (.of main_v20) main_call0) (after preOps V)))
      (Proc.devRef .tc main_v37) : FVec F S128x100000 .f32) (ix2 r c) =
    FloatOps.addf (gum (word (BitVec.ofNat 32 (r.val * 100000 + c.val) + 42#32))) ((V (Proc.devRef .tc main_arg0) : FVec F S128x100000 .f32) (ix2 r c)) := by
  have H := mixed V r c
  have ha : after (mixOps (.of main_v8) (.of main_v10) main_call0)
        (after (headOps (.of main_v8) (.of main_v10) (.of main_v21) (.of main_v20) main_call0) (after preOps V))
      (Proc.devRef .tc main_arg0) = V (Proc.devRef .tc main_arg0) := by after_reads_simp
  generalize after (mixOps (.of main_v8) (.of main_v10) main_call0)
        (after (headOps (.of main_v8) (.of main_v10) (.of main_v21) (.of main_v20) main_call0) (after preOps V)) = W at H ha ⊢
  exact noise_reads W (ix2 r c) _ _ H.fst H.snd (congrFun ha (ix2 r c))

/-- The reference's result: the arg-max of each row of scores. -/
theorem ops_result : ∃ x : FVec F S128x100000 .f32,
    (∀ (r : Fin 128) (c : Fin 100000), x (ix2 r c) =
      FloatOps.addf (gum (word (BitVec.ofNat 32 (r.val * 100000 + c.val) + 42#32))) ((V (Proc.devRef .tc main_arg0) : FVec F S128x100000 .f32) (ix2 r c))) ∧
    (after ops V (Proc.devRef .tc main_v38) : IVec S128 32) = fun i =>
      (Host.argReduce (F := F) reducer_argmax_f32_i32 x (iotaInDim S128x100000 32 1) (constant S_ .f32 0xFF800000#32)
        (constantI S_ 32 0#32) reducesTo_S128x100000_S128_d1 h_S_ i).2 := by
  refine ⟨_, ops_score V, ?_⟩
  simp only [ops, after_two]
  exact argmax_reads _

end Cert.ReferenceIdeal.Hand

end
-- ==== Proof.Hand.RefFirst.lean ====
module

public import proofs.«01_k».proof.Proof.Hand.RefValue
public import proofs.«01_k».proof.Proof.Hand.First

@[expose] public section

/-! # The reference returns the first place of each row's greatest score -/

set_option maxRecDepth 16384

noncomputable section

namespace Cert.ReferenceIdeal.Hand

open Cert.ReferenceIdeal Cert.ReferenceIdeal.Gen Cert.Mix Cert.First
open Idealize.ShloMosaic Idealize.ShloMosaic.TcCoe Idealize.ShloMosaic.StableHlo Idealize.SL.Sem

/-- The reference's step keeps the better of two pairs. -/
theorem reducer_beats (a b : EReal × BitVec 32) :
    ((reducer_argmax_f32_i32 (F := Ideal) a b : EReal × BitVec 32) = a ∧ Beats a b) ∨
      ((reducer_argmax_f32_i32 (F := Ideal) a b : EReal × BitVec 32) = b ∧ Beats b a) := by
  obtain ⟨a, i⟩ := a
  obtain ⟨b, j⟩ := b
  simp only [reducer_argmax_f32_i32, Ideal.cmpf_def, Ideal.cmp, Scalar.select, Beats, Prod.mk.injEq]
  rcases lt_trichotomy b a with h | h | h
  · left
    simp [h, h.ne', IntOp.ori, IntOp.andi]
  · subst h
    rcases lt_or_ge i.toInt j.toInt with g | g
    · left
      simp [g.le, g, IntOp.ori, IntOp.andi, IntOp.cmpi, BitVec.slt]
    · right
      simp [g, not_lt.mpr g, IntOp.ori, IntOp.andi, IntOp.cmpi, BitVec.slt]
  · right
    simp [h, not_lt.mpr h.le, h.ne, IntOp.ori, IntOp.andi]

/-- Which elements the reduction folds into row `r`: the elements of the row. -/
theorem drop_row (i : S128x100000.Idx) (r : Fin 128) :
    (reducesTo_S128x100000_S128_d1 : S128x100000.ReducesTo [1] S128).drop i = ix1 r ↔ ∃ c : Fin 100000, i = ix2 r c := by
  constructor
  · intro h
    have h0 := congrArg (fun j : S128.Idx => (j 0).val) h
    have h1 := Shape.ReducesTo.drop_apply_val_of_eq reducesTo_S128x100000_S128_d1 i 0 0
    refine ⟨i 1, ?_⟩
    have h2 : i 0 = r := Fin.ext (h1.symm.trans h0)
    rw [← h2]
    exact eq_ix2 i
  · rintro ⟨c, rfl⟩
    funext k
    obtain rfl : k = 0 := Subsingleton.elim _ _
    exact Fin.ext (Shape.ReducesTo.drop_apply_val_of_eq reducesTo_S128x100000_S128_d1 (ix2 r c) 0 0)

/-- Row `r` of the reference's result is the first place of the row's greatest score. -/
theorem ops_first (V : Valuation τ sig (Elt Ideal)) (r : Fin 128) :
    ∃ n, IsFirst (rowScore (fun t => gum (F := Ideal) (word t))
        (fun r c => (V (Proc.devRef .tc main_arg0) : FVec Ideal S128x100000 .f32) (ix2 r c)) r) 100000 n ∧
      (after ops V (Proc.devRef .tc main_v38) : IVec S128 32) (ix1 r) = BitVec.ofNat 32 n := by
  obtain ⟨x, hx, he⟩ := ops_result V
  rw [he]
  show ∃ n, _ ∧ (Host.argReduce (F := Ideal) reducer_argmax_f32_i32 x (iotaInDim S128x100000 32 1) (constant S_ .f32 0xFF800000#32)
        (constantI S_ 32 0#32) reducesTo_S128x100000_S128_d1 h_S_ (ix1 r)).2 = _
  rw [Ideal.argReduce_eq_reduce2, Host.reduce2_eq_foldl_fiber]
  obtain ⟨hm, hb⟩ := foldl_beats (reducer_argmax_f32_i32 (F := Ideal)) reducer_beats
    (Host.argReduceFiber x (iotaInDim S128x100000 32 1) reducesTo_S128x100000_S128_d1 (ix1 r)) (⊥, 0#32)
  have hi : ((constant (F := Ideal) S_ .f32 0xFF800000#32) (Shape.Idx.first h_S_), (constantI S_ 32 0#32) (Shape.Idx.first h_S_))
      = ((⊥, 0#32) : EReal × BitVec 32) := Prod.ext ofBits_low rfl
  rw [hi]
  have hs := fun c : Fin 100000 => (hx r c).trans (rowScore_lt (fun t => gum (F := Ideal) (word t))
        (fun r c => (V (Proc.devRef .tc main_arg0) : FVec Ideal S128x100000 .f32) (ix2 r c)) r c).symm
  have hmem : ∀ q : EReal × BitVec 32, q ∈ Host.argReduceFiber x (iotaInDim S128x100000 32 1) reducesTo_S128x100000_S128_d1 (ix1 r) ↔
      ∃ c : Fin 100000, q = (x (ix2 r c), BitVec.ofNat 32 c.val) := by
    intro q
    simp only [Host.argReduceFiber, List.mem_map, List.mem_filter, List.mem_finRange, true_and, decide_eq_true_eq, drop_row]
    constructor
    · rintro ⟨n, ⟨c, hc⟩, rfl⟩
      exact ⟨c, by rw [hc]; rfl⟩
    · rintro ⟨c, rfl⟩
      exact ⟨S128x100000.rowMajor (ix2 r c), ⟨c, by simp⟩, by simp; rfl⟩
  refine isFirst_of_beats (by norm_num) (by norm_num) _ ?_ ?_
  · rcases List.mem_cons.mp hm with h | h
    · exact .inl h
    · obtain ⟨c, hc⟩ := (hmem _).mp h
      exact .inr ⟨c.val, c.isLt, hc.trans (Prod.ext (hs c) rfl)⟩
  · intro c hc
    have h := hb _ (List.mem_cons_of_mem _ ((hmem (x (ix2 r ⟨c, hc⟩), BitVec.ofNat 32 c)).mpr ⟨⟨c, hc⟩, rfl⟩))
    rwa [hs ⟨c, hc⟩] at h

end Cert.ReferenceIdeal.Hand
-- ==== Proof.Hand.Algebraic.lean ====
module

public import proofs.«01_k».proof.Proof.Hand.Final
public import proofs.«01_k».proof.Proof.Hand.RefRun
public import proofs.«01_k».proof.Proof.Hand.RefFirst
public import proofs.«01_k».proof.Defs

@[expose] public section

/-! # The kernel and the reference return the same samples -/

set_option maxRecDepth 16384

noncomputable section

namespace Cert.Hand

open Cert.Mix Cert.First
open Idealize.ShloMosaic Idealize.ShloMosaic.TcCoe Idealize.ShloMosaic.StableHlo Idealize.SL.Sem

/-- The kernel's noise, `0 - log (0 - log u)`, is the reference's, `-log (-log u)`. -/
theorem gum_eq (w : BitVec 32) : KernelIdeal.Hand.gum (F := Ideal) w = ReferenceIdeal.Hand.gum (F := Ideal) w := by
  have h : ∀ x : EReal, (FloatOps.subf (FloatOps.ofBits (F := Ideal) .f32 0x00000000#32) x : EReal) = -x := fun x => by
    show Ideal.ofBits .f32 0x00000000#32 - x = -x
    rw [Ideal.ofBits_zero_f32, zero_sub]
  unfold KernelIdeal.Hand.gum ReferenceIdeal.Hand.gum
  rw [h, h]
  rfl

/-- From the same array both programs return the same sample of each row. -/
theorem same_sample (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (hm : m' ((c.tc : Thread ReferenceIdeal.nD ReferenceIdeal.τ).loc ReferenceIdeal.main_arg0) =
      m ((c.tc : Thread KernelIdeal.nD KernelIdeal.τ).loc KernelIdeal.main_arg0)) :
    (after ReferenceIdeal.Hand.ops (launchContents m' c) (Proc.devRef .tc ReferenceIdeal.main_v38) : IVec ReferenceIdeal.S128 32) =
      (KernelIdeal.Hand.finalOf m c KernelIdeal.main_v14 : IVec KernelIdeal.S128 32) := by
  refine funext fun i : KernelIdeal.S128.Idx => ?_
  obtain ⟨r, rfl⟩ : ∃ r : Fin 128, i = ix1 r := ⟨i 0, eq_ix1 i⟩
  obtain ⟨n, hn, e⟩ := ReferenceIdeal.Hand.ops_first (launchContents m' c) r
  obtain ⟨n', hn', e'⟩ := KernelIdeal.Hand.final_first m c r
  have hg : (fun t => (ReferenceIdeal.Hand.gum (F := Ideal) (word t) : EReal)) = fun t => KernelIdeal.Hand.gum (F := Ideal) (word t) :=
    funext fun t => (gum_eq (word t)).symm
  have ha : (fun (r : Fin 128) (q : Fin 100000) =>
      ((launchContents m' c (Proc.devRef .tc ReferenceIdeal.main_arg0) : FVec Ideal ReferenceIdeal.S128x100000 .f32) (ix2 r q) : EReal)) =
      fun r q => ((m ((c : Thread KernelIdeal.nD KernelIdeal.τ).loc KernelIdeal.main_arg0) : FVec Ideal KernelIdeal.S128x100000 .f32) (ix2 r q) : EReal) :=
    funext fun r => funext fun q => congrFun hm (ix2 r q)
  rw [hg, ha] at hn
  rw [e, hn.unique hn']
  exact e'.symm

end Cert.Hand
-- ==== Proof.lean ====
module

public import proofs.«01_k».proof.Defs
public import proofs.«01_k».proof.Proof.Hand.Frames
public import proofs.«01_k».proof.Proof.Hand.RefRun
public import proofs.«01_k».proof.Proof.Hand.Algebraic

@[expose] public section

noncomputable section

namespace Cert.Proof

open Idealize.ShloMosaic Idealize.SL.Sem

/-- The claims, each from its module: the three frames, that the idealization keeps the program,
    and that the kernel and the reference return the same samples. -/
theorem claim : Cert.Claim :=
  ⟨Cert.Kernel.Gen.facts, Cert.KernelIdeal.Gen.facts, Cert.ReferenceIdeal.Gen.facts,
    fun m ρ _ => Cert.Kernel.Hand.frame_end m ρ, fun m ρ _ => Cert.KernelIdeal.Hand.frame_end m ρ,
    fun m ρ _ => Cert.ReferenceIdeal.Hand.frame_end m ρ, trivial,
    fun m g m' g' _ agree => ⟨fun c => Cert.KernelIdeal.Hand.finalOf m c Cert.KernelIdeal.main_v14,
      (θ_run _ _ _).mono (fun _ h => h.1) (Cert.KernelIdeal.Hand.run_result m g),
      (θ_run _ _ _).mono (fun _ h c => ⟨(h c _).trans (Cert.Hand.same_sample m m' c (agree c)),
        (h c _).trans (Cert.ReferenceIdeal.Hand.ops_arg0 _)⟩) (Cert.ReferenceIdeal.Hand.run_ops m' g')⟩⟩

end Cert.Proof

end
